-- ==== Defs.lean ====
def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_RefFfn1Ideal (m : (ℓ : Loc Cert.RefFfn1Ideal.nD Cert.RefFfn1Ideal.τ Cert.RefFfn1Ideal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_RefFfn2Ideal (m : (ℓ : Loc Cert.RefFfn2Ideal.nD Cert.RefFfn2Ideal.τ Cert.RefFfn2Ideal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_RefGdnIdeal (m : (ℓ : Loc Cert.RefGdnIdeal.nD Cert.RefGdnIdeal.τ Cert.RefGdnIdeal.sig) → Buf (Elt Ideal) ℓ) : Prop :=
  True

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_RefFfn1Ideal [hRefFfn1Ideal : Cert.RefFfn1Ideal.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3)
      ∧ r.2.mem ((c.tc : Thread Cert.RefFfn1Ideal.nD Cert.RefFfn1Ideal.τ).loc Cert.RefFfn1Ideal.main_arg4) = m ((c.tc : Thread Cert.RefFfn1Ideal.nD Cert.RefFfn1Ideal.τ).loc Cert.RefFfn1Ideal.main_arg4))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6)
      ∧ r.2.mem ((c.tc : Thread Cert.Ffn2.nD Cert.Ffn2.τ).loc Cert.Ffn2.main_arg7) = m ((c.tc : Thread Cert.Ffn2.nD Cert.Ffn2.τ).loc Cert.Ffn2.main_arg7)
      ∧ r.2.mem ((c.tc : Thread Cert.Ffn2.nD Cert.Ffn2.τ).loc Cert.Ffn2.main_arg8) = m ((c.tc : Thread Cert.Ffn2.nD Cert.Ffn2.τ).loc Cert.Ffn2.main_arg8)
      ∧ r.2.mem ((c.tc : Thread Cert.Ffn2.nD Cert.Ffn2.τ).loc Cert.Ffn2.main_arg9) = m ((c.tc : Thread Cert.Ffn2.nD Cert.Ffn2.τ).loc Cert.Ffn2.main_arg9)
      ∧ r.2.mem ((c.tc : Thread Cert.Ffn2.nD Cert.Ffn2.τ).loc Cert.Ffn2.main_arg10) = m ((c.tc : Thread Cert.Ffn2.nD Cert.Ffn2.τ).loc Cert.Ffn2.main_arg10)
      ∧ r.2.mem ((c.tc : Thread Cert.Ffn2.nD Cert.Ffn2.τ).loc Cert.Ffn2.main_arg11) = m ((c.tc : Thread Cert.Ffn2.nD Cert.Ffn2.τ).loc Cert.Ffn2.main_arg11)
      ∧ r.2.mem ((c.tc : Thread Cert.Ffn2.nD Cert.Ffn2.τ).loc Cert.Ffn2.main_arg12) = m ((c.tc : Thread Cert.Ffn2.nD Cert.Ffn2.τ).loc Cert.Ffn2.main_arg12)
      ∧ r.2.mem ((c.tc : Thread Cert.Ffn2.nD Cert.Ffn2.τ).loc Cert.Ffn2.main_arg13) = m ((c.tc : Thread Cert.Ffn2.nD Cert.Ffn2.τ).loc Cert.Ffn2.main_arg13)
      ∧ r.2.mem ((c.tc : Thread Cert.Ffn2.nD Cert.Ffn2.τ).loc Cert.Ffn2.main_arg14) = m ((c.tc : Thread Cert.Ffn2.nD Cert.Ffn2.τ).loc Cert.Ffn2.main_arg14)
      ∧ r.2.mem ((c.tc : Thread Cert.Ffn2.nD Cert.Ffn2.τ).loc Cert.Ffn2.main_arg15) = m ((c.tc : Thread Cert.Ffn2.nD Cert.Ffn2.τ).loc Cert.Ffn2.main_arg15)
      ∧ r.2.mem ((c.tc : Thread Cert.Ffn2.nD Cert.Ffn2.τ).loc Cert.Ffn2.main_arg16) = m ((c.tc : Thread Cert.Ffn2.nD Cert.Ffn2.τ).loc Cert.Ffn2.main_arg16))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
      ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
      ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8)
      ∧ r.2.mem ((c.tc : Thread Cert.Ffn2Ideal.nD Cert.Ffn2Ideal.τ).loc Cert.Ffn2Ideal.main_arg9) = m ((c.tc : Thread Cert.Ffn2Ideal.nD Cert.Ffn2Ideal.τ).loc Cert.Ffn2Ideal.main_arg9)
      ∧ r.2.mem ((c.tc : Thread Cert.Ffn2Ideal.nD Cert.Ffn2Ideal.τ).loc Cert.Ffn2Ideal.main_arg10) = m ((c.tc : Thread Cert.Ffn2Ideal.nD Cert.Ffn2Ideal.τ).loc Cert.Ffn2Ideal.main_arg10)
      ∧ r.2.mem ((c.tc : Thread Cert.Ffn2Ideal.nD Cert.Ffn2Ideal.τ).loc Cert.Ffn2Ideal.main_arg11) = m ((c.tc : Thread Cert.Ffn2Ideal.nD Cert.Ffn2Ideal.τ).loc Cert.Ffn2Ideal.main_arg11)
      ∧ r.2.mem ((c.tc : Thread Cert.Ffn2Ideal.nD Cert.Ffn2Ideal.τ).loc Cert.Ffn2Ideal.main_arg12) = m ((c.tc : Thread Cert.Ffn2Ideal.nD Cert.Ffn2Ideal.τ).loc Cert.Ffn2Ideal.main_arg12)
      ∧ r.2.mem ((c.tc : Thread Cert.Ffn2Ideal.nD Cert.Ffn2Ideal.τ).loc Cert.Ffn2Ideal.main_arg13) = m ((c.tc : Thread Cert.Ffn2Ideal.nD Cert.Ffn2Ideal.τ).loc Cert.Ffn2Ideal.main_arg13)
      ∧ r.2.mem ((c.tc : Thread Cert.Ffn2Ideal.nD Cert.Ffn2Ideal.τ).loc Cert.Ffn2Ideal.main_arg14) = m ((c.tc : Thread Cert.Ffn2Ideal.nD Cert.Ffn2Ideal.τ).loc Cert.Ffn2Ideal.main_arg14)
      ∧ r.2.mem ((c.tc : Thread Cert.Ffn2Ideal.nD Cert.Ffn2Ideal.τ).loc Cert.Ffn2Ideal.main_arg15) = m ((c.tc : Thread Cert.Ffn2Ideal.nD Cert.Ffn2Ideal.τ).loc Cert.Ffn2Ideal.main_arg15)
      ∧ r.2.mem ((c.tc : Thread Cert.Ffn2Ideal.nD Cert.Ffn2Ideal.τ).loc Cert.Ffn2Ideal.main_arg16) = m ((c.tc : Thread Cert.Ffn2Ideal.nD Cert.Ffn2Ideal.τ).loc Cert.Ffn2Ideal.main_arg16))
      ∧ r.2.sem = fun _ => 0)

def quiescent_RefFfn2Ideal [hRefFfn2Ideal : Cert.RefFfn2Ideal.Facts] : Prop :=
  ∀ (m : (ℓ : Loc Cert.RefFfn2Ideal.nD Cert.RefFfn2Ideal.τ Cert.RefFfn2Ideal.sig) → Buf (Elt Ideal) ℓ) (g : Dev Cert.RefFfn2Ideal.nD → PrngReg), Pre_RefFfn2Ideal m →
    θ_run (Cert.RefFfn2Ideal.defs (F := Ideal)) (onTc (τ := Cert.RefFfn2Ideal.τ) (Cert.RefFfn2Ideal.main (F := Ideal))) ⟨m, fun _ => 0, g⟩ (fun r => (∀ c : Dev Cert.RefFfn2Ideal.nD,
      r.2.mem ((c.tc : Thread Cert.RefFfn2Ideal.nD Cert.RefFfn2Ideal.τ).loc Cert.RefFfn2Ideal.main_arg0) = m ((c.tc : Thread Cert.RefFfn2Ideal.nD Cert.RefFfn2Ideal.τ).loc Cert.RefFfn2Ideal.main_arg0)
      ∧ r.2.mem ((c.tc : Thread Cert.RefFfn2Ideal.nD Cert.RefFfn2Ideal.τ).loc Cert.RefFfn2Ideal.main_arg1) = m ((c.tc : Thread Cert.RefFfn2Ideal.nD Cert.RefFfn2Ideal.τ).loc Cert.RefFfn2Ideal.main_arg1)
      ∧ r.2.mem ((c.tc : Thread Cert.RefFfn2Ideal.nD Cert.RefFfn2Ideal.τ).loc Cert.RefFfn2Ideal.main_arg2) = m ((c.tc : Thread Cert.RefFfn2Ideal.nD Cert.RefFfn2Ideal.τ).loc Cert.RefFfn2Ideal.main_arg2)
      ∧ r.2.mem ((c.tc : Thread Cert.RefFfn2Ideal.nD Cert.RefFfn2Ideal.τ).loc Cert.RefFfn2Ideal.main_arg3) = m ((c.tc : Thread Cert.RefFfn2Ideal.nD Cert.RefFfn2Ideal.τ).loc Cert.RefFfn2Ideal.main_arg3)
      ∧ r.2.mem ((c.tc : Thread Cert.RefFfn2Ideal.nD Cert.RefFfn2Ideal.τ).loc Cert.RefFfn2Ideal.main_arg4) = m ((c.tc : Thread Cert.RefFfn2Ideal.nD Cert.RefFfn2Ideal.τ).loc Cert.RefFfn2Ideal.main_arg4)
      ∧ r.2.mem ((c.tc : Thread Cert.RefFfn2Ideal.nD Cert.RefFfn2Ideal.τ).loc Cert.RefFfn2Ideal.main_arg5) = m ((c.tc : Thread Cert.RefFfn2Ideal.nD Cert.RefFfn2Ideal.τ).loc Cert.RefFfn2Ideal.main_arg5)
      ∧ r.2.mem ((c.tc : Thread Cert.RefFfn2Ideal.nD Cert.RefFfn2Ideal.τ).loc Cert.RefFfn2Ideal.main_arg6) = m ((c.tc : Thread Cert.RefFfn2Ideal.nD Cert.RefFfn2Ideal.τ).loc Cert.RefFfn2Ideal.main_arg6)
      ∧ r.2.mem ((c.tc : Thread Cert.RefFfn2Ideal.nD Cert.RefFfn2Ideal.τ).loc Cert.RefFfn2Ideal.main_arg7) = m ((c.tc : Thread Cert.RefFfn2Ideal.nD Cert.RefFfn2Ideal.τ).loc Cert.RefFfn2Ideal.main_arg7)
      ∧ r.2.mem ((c.tc : Thread Cert.RefFfn2Ideal.nD Cert.RefFfn2Ideal.τ).loc Cert.RefFfn2Ideal.main_arg8) = m ((c.tc : Thread Cert.RefFfn2Ideal.nD Cert.RefFfn2Ideal.τ).loc Cert.RefFfn2Ideal.main_arg8)
      ∧ r.2.mem ((c.tc : Thread Cert.RefFfn2Ideal.nD Cert.RefFfn2Ideal.τ).loc Cert.RefFfn2Ideal.main_arg9) = m ((c.tc : Thread Cert.RefFfn2Ideal.nD Cert.RefFfn2Ideal.τ).loc Cert.RefFfn2Ideal.main_arg9)
      ∧ r.2.mem ((c.tc : Thread Cert.RefFfn2Ideal.nD Cert.RefFfn2Ideal.τ).loc Cert.RefFfn2Ideal.main_arg10) = m ((c.tc : Thread Cert.RefFfn2Ideal.nD Cert.RefFfn2Ideal.τ).loc Cert.RefFfn2Ideal.main_arg10)
      ∧ r.2.mem ((c.tc : Thread Cert.RefFfn2Ideal.nD Cert.RefFfn2Ideal.τ).loc Cert.RefFfn2Ideal.main_arg11) = m ((c.tc : Thread Cert.RefFfn2Ideal.nD Cert.RefFfn2Ideal.τ).loc Cert.RefFfn2Ideal.main_arg11)
      ∧ r.2.mem ((c.tc : Thread Cert.RefFfn2Ideal.nD Cert.RefFfn2Ideal.τ).loc Cert.RefFfn2Ideal.main_arg12) = m ((c.tc : Thread Cert.RefFfn2Ideal.nD Cert.RefFfn2Ideal.τ).loc Cert.RefFfn2Ideal.main_arg12)
      ∧ r.2.mem ((c.tc : Thread Cert.RefFfn2Ideal.nD Cert.RefFfn2Ideal.τ).loc Cert.RefFfn2Ideal.main_arg13) = m ((c.tc : Thread Cert.RefFfn2Ideal.nD Cert.RefFfn2Ideal.τ).loc Cert.RefFfn2Ideal.main_arg13)
      ∧ r.2.mem ((c.tc : Thread Cert.RefFfn2Ideal.nD Cert.RefFfn2Ideal.τ).loc Cert.RefFfn2Ideal.main_arg14) = m ((c.tc : Thread Cert.RefFfn2Ideal.nD Cert.RefFfn2Ideal.τ).loc Cert.RefFfn2Ideal.main_arg14)
      ∧ r.2.mem ((c.tc : Thread Cert.RefFfn2Ideal.nD Cert.RefFfn2Ideal.τ).loc Cert.RefFfn2Ideal.main_arg15) = m ((c.tc : Thread Cert.RefFfn2Ideal.nD Cert.RefFfn2Ideal.τ).loc Cert.RefFfn2Ideal.main_arg15)
      ∧ r.2.mem ((c.tc : Thread Cert.RefFfn2Ideal.nD Cert.RefFfn2Ideal.τ).loc Cert.RefFfn2Ideal.main_arg16) = m ((c.tc : Thread Cert.RefFfn2Ideal.nD Cert.RefFfn2Ideal.τ).loc Cert.RefFfn2Ideal.main_arg16))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ r.2.sem = fun _ => 0)

def quiescent_RefGdnIdeal [hRefGdnIdeal : Cert.RefGdnIdeal.Facts] : Prop :=
  ∀ (m : (ℓ : Loc Cert.RefGdnIdeal.nD Cert.RefGdnIdeal.τ Cert.RefGdnIdeal.sig) → Buf (Elt Ideal) ℓ) (g : Dev Cert.RefGdnIdeal.nD → PrngReg), Pre_RefGdnIdeal m →
    θ_run (Cert.RefGdnIdeal.defs (F := Ideal)) (onTc (τ := Cert.RefGdnIdeal.τ) (Cert.RefGdnIdeal.main (F := Ideal))) ⟨m, fun _ => 0, g⟩ (fun r => (∀ c : Dev Cert.RefGdnIdeal.nD,
      r.2.mem ((c.tc : Thread Cert.RefGdnIdeal.nD Cert.RefGdnIdeal.τ).loc Cert.RefGdnIdeal.main_arg0) = m ((c.tc : Thread Cert.RefGdnIdeal.nD Cert.RefGdnIdeal.τ).loc Cert.RefGdnIdeal.main_arg0)
      ∧ r.2.mem ((c.tc : Thread Cert.RefGdnIdeal.nD Cert.RefGdnIdeal.τ).loc Cert.RefGdnIdeal.main_arg1) = m ((c.tc : Thread Cert.RefGdnIdeal.nD Cert.RefGdnIdeal.τ).loc Cert.RefGdnIdeal.main_arg1)
      ∧ r.2.mem ((c.tc : Thread Cert.RefGdnIdeal.nD Cert.RefGdnIdeal.τ).loc Cert.RefGdnIdeal.main_arg2) = m ((c.tc : Thread Cert.RefGdnIdeal.nD Cert.RefGdnIdeal.τ).loc Cert.RefGdnIdeal.main_arg2)
      ∧ r.2.mem ((c.tc : Thread Cert.RefGdnIdeal.nD Cert.RefGdnIdeal.τ).loc Cert.RefGdnIdeal.main_arg3) = m ((c.tc : Thread Cert.RefGdnIdeal.nD Cert.RefGdnIdeal.τ).loc Cert.RefGdnIdeal.main_arg3)
      ∧ r.2.mem ((c.tc : Thread Cert.RefGdnIdeal.nD Cert.RefGdnIdeal.τ).loc Cert.RefGdnIdeal.main_arg4) = m ((c.tc : Thread Cert.RefGdnIdeal.nD Cert.RefGdnIdeal.τ).loc Cert.RefGdnIdeal.main_arg4)
      ∧ r.2.mem ((c.tc : Thread Cert.RefGdnIdeal.nD Cert.RefGdnIdeal.τ).loc Cert.RefGdnIdeal.main_arg5) = m ((c.tc : Thread Cert.RefGdnIdeal.nD Cert.RefGdnIdeal.τ).loc Cert.RefGdnIdeal.main_arg5)
      ∧ r.2.mem ((c.tc : Thread Cert.RefGdnIdeal.nD Cert.RefGdnIdeal.τ).loc Cert.RefGdnIdeal.main_arg6) = m ((c.tc : Thread Cert.RefGdnIdeal.nD Cert.RefGdnIdeal.τ).loc Cert.RefGdnIdeal.main_arg6))
      ∧ r.2.sem = fun _ => 0)

def preserves_Ffn1_Ffn1Ideal : Prop :=
  True

def algebraic_Ffn1Ideal_RefFfn1Ideal [hFfn1Ideal : Cert.Ffn1Ideal.Facts] [hRefFfn1Ideal : Cert.RefFfn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.RefFfn1Ideal.nD Cert.RefFfn1Ideal.τ Cert.RefFfn1Ideal.sig) → Buf (Elt Ideal) ℓ) (g' : Dev Cert.RefFfn1Ideal.nD → PrngReg), Pre_Ffn1Ideal m →
    (∀ c : Dev Cert.Ffn1Ideal.nD,
      m' ((c.tc : Thread Cert.RefFfn1Ideal.nD Cert.RefFfn1Ideal.τ).loc Cert.RefFfn1Ideal.main_arg0) = m ((c.tc : Thread Cert.Ffn1Ideal.nD Cert.Ffn1Ideal.τ).loc Cert.Ffn1Ideal.main_arg0)
      ∧ m' ((c.tc : Thread Cert.RefFfn1Ideal.nD Cert.RefFfn1Ideal.τ).loc Cert.RefFfn1Ideal.main_arg1) = m ((c.tc : Thread Cert.Ffn1Ideal.nD Cert.Ffn1Ideal.τ).loc Cert.Ffn1Ideal.main_arg1)
      ∧ m' ((c.tc : Thread Cert.RefFfn1Ideal.nD Cert.RefFfn1Ideal.τ).loc Cert.RefFfn1Ideal.main_arg2) = m ((c.tc : Thread Cert.Ffn1Ideal.nD Cert.Ffn1Ideal.τ).loc Cert.Ffn1Ideal.main_arg2)
      ∧ m' ((c.tc : Thread Cert.RefFfn1Ideal.nD Cert.RefFfn1Ideal.τ).loc Cert.RefFfn1Ideal.main_arg3) = m ((c.tc : Thread Cert.Ffn1Ideal.nD Cert.Ffn1Ideal.τ).loc Cert.Ffn1Ideal.main_arg3)
      ∧ m' ((c.tc : Thread Cert.RefFfn1Ideal.nD Cert.RefFfn1Ideal.τ).loc Cert.RefFfn1Ideal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v9)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v9) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.RefFfn1Ideal.defs (F := Ideal)) (onTc (τ := Cert.RefFfn1Ideal.τ) (Cert.RefFfn1Ideal.main (F := Ideal))) ⟨m', fun _ => 0, g'⟩ (fun r => ∀ c : Dev Cert.RefFfn1Ideal.nD,
          r.2.mem ((c.tc : Thread Cert.RefFfn1Ideal.nD Cert.RefFfn1Ideal.τ).loc Cert.RefFfn1Ideal.main_v39) = v0 c
          ∧ r.2.mem ((c.tc : Thread Cert.RefFfn1Ideal.nD Cert.RefFfn1Ideal.τ).loc Cert.RefFfn1Ideal.main_arg0) = m' ((c.tc : Thread Cert.RefFfn1Ideal.nD Cert.RefFfn1Ideal.τ).loc Cert.RefFfn1Ideal.main_arg0)
          ∧ r.2.mem ((c.tc : Thread Cert.RefFfn1Ideal.nD Cert.RefFfn1Ideal.τ).loc Cert.RefFfn1Ideal.main_arg1) = m' ((c.tc : Thread Cert.RefFfn1Ideal.nD Cert.RefFfn1Ideal.τ).loc Cert.RefFfn1Ideal.main_arg1)
          ∧ r.2.mem ((c.tc : Thread Cert.RefFfn1Ideal.nD Cert.RefFfn1Ideal.τ).loc Cert.RefFfn1Ideal.main_arg2) = m' ((c.tc : Thread Cert.RefFfn1Ideal.nD Cert.RefFfn1Ideal.τ).loc Cert.RefFfn1Ideal.main_arg2)
          ∧ r.2.mem ((c.tc : Thread Cert.RefFfn1Ideal.nD Cert.RefFfn1Ideal.τ).loc Cert.RefFfn1Ideal.main_arg3) = m' ((c.tc : Thread Cert.RefFfn1Ideal.nD Cert.RefFfn1Ideal.τ).loc Cert.RefFfn1Ideal.main_arg3)
          ∧ r.2.mem ((c.tc : Thread Cert.RefFfn1Ideal.nD Cert.RefFfn1Ideal.τ).loc Cert.RefFfn1Ideal.main_arg4) = m' ((c.tc : Thread Cert.RefFfn1Ideal.nD Cert.RefFfn1Ideal.τ).loc Cert.RefFfn1Ideal.main_arg4))

def preserves_Ffn2_Ffn2Ideal : Prop :=
  True

def algebraic_Ffn2Ideal_RefFfn2Ideal [hFfn2Ideal : Cert.Ffn2Ideal.Facts] [hRefFfn2Ideal : Cert.RefFfn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.RefFfn2Ideal.nD Cert.RefFfn2Ideal.τ Cert.RefFfn2Ideal.sig) → Buf (Elt Ideal) ℓ) (g' : Dev Cert.RefFfn2Ideal.nD → PrngReg), Pre_Ffn2Ideal m →
    (∀ c : Dev Cert.Ffn2Ideal.nD,
      m' ((c.tc : Thread Cert.RefFfn2Ideal.nD Cert.RefFfn2Ideal.τ).loc Cert.RefFfn2Ideal.main_arg0) = m ((c.tc : Thread Cert.Ffn2Ideal.nD Cert.Ffn2Ideal.τ).loc Cert.Ffn2Ideal.main_arg0)
      ∧ m' ((c.tc : Thread Cert.RefFfn2Ideal.nD Cert.RefFfn2Ideal.τ).loc Cert.RefFfn2Ideal.main_arg1) = m ((c.tc : Thread Cert.Ffn2Ideal.nD Cert.Ffn2Ideal.τ).loc Cert.Ffn2Ideal.main_arg1)
      ∧ m' ((c.tc : Thread Cert.RefFfn2Ideal.nD Cert.RefFfn2Ideal.τ).loc Cert.RefFfn2Ideal.main_arg2) = m ((c.tc : Thread Cert.Ffn2Ideal.nD Cert.Ffn2Ideal.τ).loc Cert.Ffn2Ideal.main_arg2)
      ∧ m' ((c.tc : Thread Cert.RefFfn2Ideal.nD Cert.RefFfn2Ideal.τ).loc Cert.RefFfn2Ideal.main_arg3) = m ((c.tc : Thread Cert.Ffn2Ideal.nD Cert.Ffn2Ideal.τ).loc Cert.Ffn2Ideal.main_arg3)
      ∧ m' ((c.tc : Thread Cert.RefFfn2Ideal.nD Cert.RefFfn2Ideal.τ).loc Cert.RefFfn2Ideal.main_arg4) = m ((c.tc : Thread Cert.Ffn2Ideal.nD Cert.Ffn2Ideal.τ).loc Cert.Ffn2Ideal.main_arg4)
      ∧ m' ((c.tc : Thread Cert.RefFfn2Ideal.nD Cert.RefFfn2Ideal.τ).loc Cert.RefFfn2Ideal.main_arg5) = m ((c.tc : Thread Cert.Ffn2Ideal.nD Cert.Ffn2Ideal.τ).loc Cert.Ffn2Ideal.main_arg5)
      ∧ m' ((c.tc : Thread Cert.RefFfn2Ideal.nD Cert.RefFfn2Ideal.τ).loc Cert.RefFfn2Ideal.main_arg6) = m ((c.tc : Thread Cert.Ffn2Ideal.nD Cert.Ffn2Ideal.τ).loc Cert.Ffn2Ideal.main_arg6)
      ∧ m' ((c.tc : Thread Cert.RefFfn2Ideal.nD Cert.RefFfn2Ideal.τ).loc Cert.RefFfn2Ideal.main_arg7) = m ((c.tc : Thread Cert.Ffn2Ideal.nD Cert.Ffn2Ideal.τ).loc Cert.Ffn2Ideal.main_arg7)
      ∧ m' ((c.tc : Thread Cert.RefFfn2Ideal.nD Cert.RefFfn2Ideal.τ).loc Cert.RefFfn2Ideal.main_arg8) = m ((c.tc : Thread Cert.Ffn2Ideal.nD Cert.Ffn2Ideal.τ).loc Cert.Ffn2Ideal.main_arg8)
      ∧ m' ((c.tc : Thread Cert.RefFfn2Ideal.nD Cert.RefFfn2Ideal.τ).loc Cert.RefFfn2Ideal.main_arg9) = m ((c.tc : Thread Cert.Ffn2Ideal.nD Cert.Ffn2Ideal.τ).loc Cert.Ffn2Ideal.main_arg9)
      ∧ m' ((c.tc : Thread Cert.RefFfn2Ideal.nD Cert.RefFfn2Ideal.τ).loc Cert.RefFfn2Ideal.main_arg10) = m ((c.tc : Thread Cert.Ffn2Ideal.nD Cert.Ffn2Ideal.τ).loc Cert.Ffn2Ideal.main_arg10)
      ∧ m' ((c.tc : Thread Cert.RefFfn2Ideal.nD Cert.RefFfn2Ideal.τ).loc Cert.RefFfn2Ideal.main_arg11) = m ((c.tc : Thread Cert.Ffn2Ideal.nD Cert.Ffn2Ideal.τ).loc Cert.Ffn2Ideal.main_arg11)
      ∧ m' ((c.tc : Thread Cert.RefFfn2Ideal.nD Cert.RefFfn2Ideal.τ).loc Cert.RefFfn2Ideal.main_arg12) = m ((c.tc : Thread Cert.Ffn2Ideal.nD Cert.Ffn2Ideal.τ).loc Cert.Ffn2Ideal.main_arg12)
      ∧ m' ((c.tc : Thread Cert.RefFfn2Ideal.nD Cert.RefFfn2Ideal.τ).loc Cert.RefFfn2Ideal.main_arg13) = m ((c.tc : Thread Cert.Ffn2Ideal.nD Cert.Ffn2Ideal.τ).loc Cert.Ffn2Ideal.main_arg13)
      ∧ m' ((c.tc : Thread Cert.RefFfn2Ideal.nD Cert.RefFfn2Ideal.τ).loc Cert.RefFfn2Ideal.main_arg14) = m ((c.tc : Thread Cert.Ffn2Ideal.nD Cert.Ffn2Ideal.τ).loc Cert.Ffn2Ideal.main_arg14)
      ∧ m' ((c.tc : Thread Cert.RefFfn2Ideal.nD Cert.RefFfn2Ideal.τ).loc Cert.RefFfn2Ideal.main_arg15) = m ((c.tc : Thread Cert.Ffn2Ideal.nD Cert.Ffn2Ideal.τ).loc Cert.Ffn2Ideal.main_arg15)
      ∧ m' ((c.tc : Thread Cert.RefFfn2Ideal.nD Cert.RefFfn2Ideal.τ).loc Cert.RefFfn2Ideal.main_arg16) = m ((c.tc : Thread Cert.Ffn2Ideal.nD Cert.Ffn2Ideal.τ).loc Cert.Ffn2Ideal.main_arg16)) →
    ∃ (v0 : (c : Dev Cert.Ffn2Ideal.nD) → Buf (Elt Ideal) ((c.tc : Thread Cert.Ffn2Ideal.nD Cert.Ffn2Ideal.τ).loc Cert.Ffn2Ideal.main_v26)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v26) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
          ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
          ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8)
          ∧ r.2.mem ((c.tc : Thread Cert.Ffn2Ideal.nD Cert.Ffn2Ideal.τ).loc Cert.Ffn2Ideal.main_arg9) = m ((c.tc : Thread Cert.Ffn2Ideal.nD Cert.Ffn2Ideal.τ).loc Cert.Ffn2Ideal.main_arg9)
          ∧ r.2.mem ((c.tc : Thread Cert.Ffn2Ideal.nD Cert.Ffn2Ideal.τ).loc Cert.Ffn2Ideal.main_arg10) = m ((c.tc : Thread Cert.Ffn2Ideal.nD Cert.Ffn2Ideal.τ).loc Cert.Ffn2Ideal.main_arg10)
          ∧ r.2.mem ((c.tc : Thread Cert.Ffn2Ideal.nD Cert.Ffn2Ideal.τ).loc Cert.Ffn2Ideal.main_arg11) = m ((c.tc : Thread Cert.Ffn2Ideal.nD Cert.Ffn2Ideal.τ).loc Cert.Ffn2Ideal.main_arg11)
          ∧ r.2.mem ((c.tc : Thread Cert.Ffn2Ideal.nD Cert.Ffn2Ideal.τ).loc Cert.Ffn2Ideal.main_arg12) = m ((c.tc : Thread Cert.Ffn2Ideal.nD Cert.Ffn2Ideal.τ).loc Cert.Ffn2Ideal.main_arg12)
          ∧ r.2.mem ((c.tc : Thread Cert.Ffn2Ideal.nD Cert.Ffn2Ideal.τ).loc Cert.Ffn2Ideal.main_arg13) = m ((c.tc : Thread Cert.Ffn2Ideal.nD Cert.Ffn2Ideal.τ).loc Cert.Ffn2Ideal.main_arg13)
          ∧ r.2.mem ((c.tc : Thread Cert.Ffn2Ideal.nD Cert.Ffn2Ideal.τ).loc Cert.Ffn2Ideal.main_arg14) = m ((c.tc : Thread Cert.Ffn2Ideal.nD Cert.Ffn2Ideal.τ).loc Cert.Ffn2Ideal.main_arg14)
          ∧ r.2.mem ((c.tc : Thread Cert.Ffn2Ideal.nD Cert.Ffn2Ideal.τ).loc Cert.Ffn2Ideal.main_arg15) = m ((c.tc : Thread Cert.Ffn2Ideal.nD Cert.Ffn2Ideal.τ).loc Cert.Ffn2Ideal.main_arg15)
          ∧ r.2.mem ((c.tc : Thread Cert.Ffn2Ideal.nD Cert.Ffn2Ideal.τ).loc Cert.Ffn2Ideal.main_arg16) = m ((c.tc : Thread Cert.Ffn2Ideal.nD Cert.Ffn2Ideal.τ).loc Cert.Ffn2Ideal.main_arg16))
      ∧ θ_run (Cert.RefFfn2Ideal.defs (F := Ideal)) (onTc (τ := Cert.RefFfn2Ideal.τ) (Cert.RefFfn2Ideal.main (F := Ideal))) ⟨m', fun _ => 0, g'⟩ (fun r => ∀ c : Dev Cert.RefFfn2Ideal.nD,
          r.2.mem ((c.tc : Thread Cert.RefFfn2Ideal.nD Cert.RefFfn2Ideal.τ).loc Cert.RefFfn2Ideal.main_v121) = v0 c
          ∧ r.2.mem ((c.tc : Thread Cert.RefFfn2Ideal.nD Cert.RefFfn2Ideal.τ).loc Cert.RefFfn2Ideal.main_arg0) = m' ((c.tc : Thread Cert.RefFfn2Ideal.nD Cert.RefFfn2Ideal.τ).loc Cert.RefFfn2Ideal.main_arg0)
          ∧ r.2.mem ((c.tc : Thread Cert.RefFfn2Ideal.nD Cert.RefFfn2Ideal.τ).loc Cert.RefFfn2Ideal.main_arg1) = m' ((c.tc : Thread Cert.RefFfn2Ideal.nD Cert.RefFfn2Ideal.τ).loc Cert.RefFfn2Ideal.main_arg1)
          ∧ r.2.mem ((c.tc : Thread Cert.RefFfn2Ideal.nD Cert.RefFfn2Ideal.τ).loc Cert.RefFfn2Ideal.main_arg2) = m' ((c.tc : Thread Cert.RefFfn2Ideal.nD Cert.RefFfn2Ideal.τ).loc Cert.RefFfn2Ideal.main_arg2)
          ∧ r.2.mem ((c.tc : Thread Cert.RefFfn2Ideal.nD Cert.RefFfn2Ideal.τ).loc Cert.RefFfn2Ideal.main_arg3) = m' ((c.tc : Thread Cert.RefFfn2Ideal.nD Cert.RefFfn2Ideal.τ).loc Cert.RefFfn2Ideal.main_arg3)
          ∧ r.2.mem ((c.tc : Thread Cert.RefFfn2Ideal.nD Cert.RefFfn2Ideal.τ).loc Cert.RefFfn2Ideal.main_arg4) = m' ((c.tc : Thread Cert.RefFfn2Ideal.nD Cert.RefFfn2Ideal.τ).loc Cert.RefFfn2Ideal.main_arg4)
          ∧ r.2.mem ((c.tc : Thread Cert.RefFfn2Ideal.nD Cert.RefFfn2Ideal.τ).loc Cert.RefFfn2Ideal.main_arg5) = m' ((c.tc : Thread Cert.RefFfn2Ideal.nD Cert.RefFfn2Ideal.τ).loc Cert.RefFfn2Ideal.main_arg5)
          ∧ r.2.mem ((c.tc : Thread Cert.RefFfn2Ideal.nD Cert.RefFfn2Ideal.τ).loc Cert.RefFfn2Ideal.main_arg6) = m' ((c.tc : Thread Cert.RefFfn2Ideal.nD Cert.RefFfn2Ideal.τ).loc Cert.RefFfn2Ideal.main_arg6)
          ∧ r.2.mem ((c.tc : Thread Cert.RefFfn2Ideal.nD Cert.RefFfn2Ideal.τ).loc Cert.RefFfn2Ideal.main_arg7) = m' ((c.tc : Thread Cert.RefFfn2Ideal.nD Cert.RefFfn2Ideal.τ).loc Cert.RefFfn2Ideal.main_arg7)
          ∧ r.2.mem ((c.tc : Thread Cert.RefFfn2Ideal.nD Cert.RefFfn2Ideal.τ).loc Cert.RefFfn2Ideal.main_arg8) = m' ((c.tc : Thread Cert.RefFfn2Ideal.nD Cert.RefFfn2Ideal.τ).loc Cert.RefFfn2Ideal.main_arg8)
          ∧ r.2.mem ((c.tc : Thread Cert.RefFfn2Ideal.nD Cert.RefFfn2Ideal.τ).loc Cert.RefFfn2Ideal.main_arg9) = m' ((c.tc : Thread Cert.RefFfn2Ideal.nD Cert.RefFfn2Ideal.τ).loc Cert.RefFfn2Ideal.main_arg9)
          ∧ r.2.mem ((c.tc : Thread Cert.RefFfn2Ideal.nD Cert.RefFfn2Ideal.τ).loc Cert.RefFfn2Ideal.main_arg10) = m' ((c.tc : Thread Cert.RefFfn2Ideal.nD Cert.RefFfn2Ideal.τ).loc Cert.RefFfn2Ideal.main_arg10)
          ∧ r.2.mem ((c.tc : Thread Cert.RefFfn2Ideal.nD Cert.RefFfn2Ideal.τ).loc Cert.RefFfn2Ideal.main_arg11) = m' ((c.tc : Thread Cert.RefFfn2Ideal.nD Cert.RefFfn2Ideal.τ).loc Cert.RefFfn2Ideal.main_arg11)
          ∧ r.2.mem ((c.tc : Thread Cert.RefFfn2Ideal.nD Cert.RefFfn2Ideal.τ).loc Cert.RefFfn2Ideal.main_arg12) = m' ((c.tc : Thread Cert.RefFfn2Ideal.nD Cert.RefFfn2Ideal.τ).loc Cert.RefFfn2Ideal.main_arg12)
          ∧ r.2.mem ((c.tc : Thread Cert.RefFfn2Ideal.nD Cert.RefFfn2Ideal.τ).loc Cert.RefFfn2Ideal.main_arg13) = m' ((c.tc : Thread Cert.RefFfn2Ideal.nD Cert.RefFfn2Ideal.τ).loc Cert.RefFfn2Ideal.main_arg13)
          ∧ r.2.mem ((c.tc : Thread Cert.RefFfn2Ideal.nD Cert.RefFfn2Ideal.τ).loc Cert.RefFfn2Ideal.main_arg14) = m' ((c.tc : Thread Cert.RefFfn2Ideal.nD Cert.RefFfn2Ideal.τ).loc Cert.RefFfn2Ideal.main_arg14)
          ∧ r.2.mem ((c.tc : Thread Cert.RefFfn2Ideal.nD Cert.RefFfn2Ideal.τ).loc Cert.RefFfn2Ideal.main_arg15) = m' ((c.tc : Thread Cert.RefFfn2Ideal.nD Cert.RefFfn2Ideal.τ).loc Cert.RefFfn2Ideal.main_arg15)
          ∧ r.2.mem ((c.tc : Thread Cert.RefFfn2Ideal.nD Cert.RefFfn2Ideal.τ).loc Cert.RefFfn2Ideal.main_arg16) = m' ((c.tc : Thread Cert.RefFfn2Ideal.nD Cert.RefFfn2Ideal.τ).loc Cert.RefFfn2Ideal.main_arg16))

def preserves_Mix_MixIdeal : Prop :=
  True

def algebraic_MixIdeal_RefMixIdeal [hMixIdeal : Cert.MixIdeal.Facts] [hRefMixIdeal : Cert.RefMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v56_0)) (v1 : (c : Dev Cert.MixIdeal.nD) → Buf (Elt Ideal) ((c.tc : Thread Cert.MixIdeal.nD Cert.MixIdeal.τ).loc Cert.MixIdeal.main_v56_1)) (v2 : (c : Dev Cert.MixIdeal.nD) → Buf (Elt Ideal) ((c.tc : Thread Cert.MixIdeal.nD Cert.MixIdeal.τ).loc Cert.MixIdeal.main_v56_2)) (v3 : (c : Dev Cert.MixIdeal.nD) → Buf (Elt Ideal) ((c.tc : Thread Cert.MixIdeal.nD Cert.MixIdeal.τ).loc Cert.MixIdeal.main_v56_3)) (v4 : (c : Dev Cert.MixIdeal.nD) → Buf (Elt Ideal) ((c.tc : Thread Cert.MixIdeal.nD Cert.MixIdeal.τ).loc Cert.MixIdeal.main_v56_4)) (v5 : (c : Dev Cert.MixIdeal.nD) → Buf (Elt Ideal) ((c.tc : Thread Cert.MixIdeal.nD Cert.MixIdeal.τ).loc Cert.MixIdeal.main_v56_5)) (v6 : (c : Dev Cert.MixIdeal.nD) → Buf (Elt Ideal) ((c.tc : Thread Cert.MixIdeal.nD Cert.MixIdeal.τ).loc Cert.MixIdeal.main_v56_6)) (v7 : (c : Dev Cert.MixIdeal.nD) → Buf (Elt Ideal) ((c.tc : Thread Cert.MixIdeal.nD Cert.MixIdeal.τ).loc Cert.MixIdeal.main_v56_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v56_0) = v0 c
          ∧ r.2.mem ((c.tc : Thread Cert.MixIdeal.nD Cert.MixIdeal.τ).loc Cert.MixIdeal.main_v56_1) = v1 c
          ∧ r.2.mem ((c.tc : Thread Cert.MixIdeal.nD Cert.MixIdeal.τ).loc Cert.MixIdeal.main_v56_2) = v2 c
          ∧ r.2.mem ((c.tc : Thread Cert.MixIdeal.nD Cert.MixIdeal.τ).loc Cert.MixIdeal.main_v56_3) = v3 c
          ∧ r.2.mem ((c.tc : Thread Cert.MixIdeal.nD Cert.MixIdeal.τ).loc Cert.MixIdeal.main_v56_4) = v4 c
          ∧ r.2.mem ((c.tc : Thread Cert.MixIdeal.nD Cert.MixIdeal.τ).loc Cert.MixIdeal.main_v56_5) = v5 c
          ∧ r.2.mem ((c.tc : Thread Cert.MixIdeal.nD Cert.MixIdeal.τ).loc Cert.MixIdeal.main_v56_6) = v6 c
          ∧ r.2.mem ((c.tc : Thread Cert.MixIdeal.nD Cert.MixIdeal.τ).loc Cert.MixIdeal.main_v56_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v34) = v0 c
          ∧ r.2.mem ((c.tc : Thread Cert.RefMixIdeal.nD Cert.RefMixIdeal.τ).loc Cert.RefMixIdeal.main_v35) = v1 c
          ∧ r.2.mem ((c.tc : Thread Cert.RefMixIdeal.nD Cert.RefMixIdeal.τ).loc Cert.RefMixIdeal.main_v133) = v2 c
          ∧ r.2.mem ((c.tc : Thread Cert.RefMixIdeal.nD Cert.RefMixIdeal.τ).loc Cert.RefMixIdeal.main_v134) = v3 c
          ∧ r.2.mem ((c.tc : Thread Cert.RefMixIdeal.nD Cert.RefMixIdeal.τ).loc Cert.RefMixIdeal.main_v135) = v4 c
          ∧ r.2.mem ((c.tc : Thread Cert.RefMixIdeal.nD Cert.RefMixIdeal.τ).loc Cert.RefMixIdeal.main_v138) = v5 c
          ∧ r.2.mem ((c.tc : Thread Cert.RefMixIdeal.nD Cert.RefMixIdeal.τ).loc Cert.RefMixIdeal.main_v139) = v6 c
          ∧ r.2.mem ((c.tc : Thread Cert.RefMixIdeal.nD Cert.RefMixIdeal.τ).loc Cert.RefMixIdeal.main_v143) = v7 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3))

def preserves_Gdn_GdnIdeal : Prop :=
  True

def Claim : Prop :=
  ∃ (hFfn1 : Cert.Ffn1.Facts) (hFfn1Ideal : Cert.Ffn1Ideal.Facts) (hRefFfn1Ideal : Cert.RefFfn1Ideal.Facts) (hFfn2 : Cert.Ffn2.Facts) (hFfn2Ideal : Cert.Ffn2Ideal.Facts) (hRefFfn2Ideal : Cert.RefFfn2Ideal.Facts) (hMix : Cert.Mix.Facts) (hMixIdeal : Cert.MixIdeal.Facts) (hRefMixIdeal : Cert.RefMixIdeal.Facts) (hGdn : Cert.Gdn.Facts) (hGdnIdeal : Cert.GdnIdeal.Facts) (hRefGdnIdeal : Cert.RefGdnIdeal.Facts),
    quiescent_Ffn1 (hFfn1 := hFfn1)
    ∧ quiescent_Ffn1Ideal (hFfn1Ideal := hFfn1Ideal)
    ∧ quiescent_RefFfn1Ideal (hRefFfn1Ideal := hRefFfn1Ideal)
    ∧ quiescent_Ffn2 (hFfn2 := hFfn2)
    ∧ quiescent_Ffn2Ideal (hFfn2Ideal := hFfn2Ideal)
    ∧ quiescent_RefFfn2Ideal (hRefFfn2Ideal := hRefFfn2Ideal)
    ∧ quiescent_Mix (hMix := hMix)
    ∧ quiescent_MixIdeal (hMixIdeal := hMixIdeal)
    ∧ quiescent_RefMixIdeal (hRefMixIdeal := hRefMixIdeal)
    ∧ quiescent_Gdn (hGdn := hGdn)
    ∧ quiescent_GdnIdeal (hGdnIdeal := hGdnIdeal)
    ∧ quiescent_RefGdnIdeal (hRefGdnIdeal := hRefGdnIdeal)
    ∧ preserves_Ffn1_Ffn1Ideal
    ∧ algebraic_Ffn1Ideal_RefFfn1Ideal (hFfn1Ideal := hFfn1Ideal) (hRefFfn1Ideal := hRefFfn1Ideal)
    ∧ preserves_Ffn2_Ffn2Ideal
    ∧ algebraic_Ffn2Ideal_RefFfn2Ideal (hFfn2Ideal := hFfn2Ideal) (hRefFfn2Ideal := hRefFfn2Ideal)
    ∧ preserves_Mix_MixIdeal
    ∧ algebraic_MixIdeal_RefMixIdeal (hMixIdeal := hMixIdeal) (hRefMixIdeal := hRefMixIdeal)
    ∧ preserves_Gdn_GdnIdeal
-- ==== Ffn1.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefFfn1Ideal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S32768x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x5632, .f32⟩
  | .hbm, ⟨24, _⟩ => ⟨S2816x1024, .f32⟩
  | .hbm, ⟨25, _⟩ => ⟨S32768x5632, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Ffn2.lean ====
abbrev S32768x1024 : Shape := ⟨2, ![32768, 1024]⟩
abbrev S32768x512 : Shape := ⟨2, ![32768, 512]⟩
abbrev S32768x2048 : Shape := ⟨2, ![32768, 2048]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S512x1024 : Shape := ⟨2, ![512, 1024]⟩
abbrev S1024x1024 : Shape := ⟨2, ![1024, 1024]⟩
abbrev S1024 : Shape := ⟨1, ![1024]⟩
abbrev S8x4096x256 : Shape := ⟨3, ![8, 4096, 256]⟩
abbrev S32768x256 : Shape := ⟨2, ![32768, 256]⟩
abbrev S256x1024 : Shape := ⟨2, ![256, 1024]⟩
abbrev S1024x5632 : Shape := ⟨2, ![1024, 5632]⟩
abbrev S2816x1024 : Shape := ⟨2, ![2816, 1024]⟩
abbrev S512x512 : Shape := ⟨2, ![512, 512]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 44
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .bf16⟩
  | .hbm, ⟨4, _⟩ => ⟨S1x8x4096x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024x5632, .f32⟩
  | .hbm, ⟨12, _⟩ => ⟨S1x2816x1024, .f32⟩
  | .hbm, ⟨13, _⟩ => ⟨S1x1024, .f32⟩
  | .hbm, ⟨14, _⟩ => ⟨S1x1024, .f32⟩
  | .hbm, ⟨15, _⟩ => ⟨S1x1024x1024, .f32⟩
  | .hbm, ⟨16, _⟩ => ⟨S1x256x1024, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S8x4096x256, .f32⟩
  | .hbm, ⟨26, _⟩ => ⟨S32768x256, .f32⟩
  | .hbm, ⟨27, _⟩ => ⟨S1024, .f32⟩
  | .hbm, ⟨28, _⟩ => ⟨S1x1024, .f32⟩
  | .hbm, ⟨29, _⟩ => ⟨S1024x1024, .f32⟩
  | .hbm, ⟨30, _⟩ => ⟨S1024x1024, .bf16⟩
  | .hbm, ⟨31, _⟩ => ⟨S256x1024, .f32⟩
  | .hbm, ⟨32, _⟩ => ⟨S256x1024, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024x5632, .f32⟩
  | .hbm, ⟨38, _⟩ => ⟨S1024x5632, .bf16⟩
  | .hbm, ⟨39, _⟩ => ⟨S2816x1024, .f32⟩
  | .hbm, ⟨40, _⟩ => ⟨S2816x1024, .bf16⟩
  | .hbm, ⟨41, _⟩ => ⟨S1024, .f32⟩
  | .hbm, ⟨42, _⟩ => ⟨S1x1024, .f32⟩
  | .hbm, ⟨43, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x256, .f32⟩
  | .local _ .vmem, ⟨17, _⟩ => ⟨S512x256, .f32⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RefFfn2Ideal.lean ====
abbrev S32768x1024 : Shape := ⟨2, ![32768, 1024]⟩
abbrev S32768x512 : Shape := ⟨2, ![32768, 512]⟩
abbrev S32768x2048 : Shape := ⟨2, ![32768, 2048]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩
abbrev S8x4096x256 : Shape := ⟨3, ![8, 4096, 256]⟩
abbrev S32768x256 : Shape := ⟨2, ![32768, 256]⟩
abbrev S256x1024 : Shape := ⟨2, ![256, 1024]⟩

abbrev nBuf : Space → Nat
  | .hbm => 169
  | .vmem => 0
  | .smem => 0
  | _ => 0

abbrev hbmTy0_0 (i : Nat) : BufTy := match i % 128 with
  | 0 => ⟨S32768x1024, .f32⟩
  | 1 => ⟨S32768x512, .bf16⟩
  | 2 => ⟨S32768x512, .bf16⟩
  | 3 => ⟨S32768x2048, .bf16⟩
  | 4 => ⟨S1x8x4096x256, .f32⟩
  | 5 => ⟨S1x512x1024, .f32⟩
  | 6 => ⟨S1x512x1024, .f32⟩
  | 7 => ⟨S1x1024x1024, .f32⟩
  | 8 => ⟨S1x1024, .f32⟩
  | 9 => ⟨S1x1024, .f32⟩
  | 10 => ⟨S1x1024, .f32⟩
  | 11 => ⟨S1x1024x5632, .f32⟩
  | 12 => ⟨S1x2816x1024, .f32⟩
  | 13 => ⟨S1x1024, .f32⟩
  | 14 => ⟨S1x1024, .f32⟩
  | 15 => ⟨S1x1024x1024, .f32⟩
  | 16 => ⟨S1x256x1024, .f32⟩
  | 17 => ⟨S32768x2048, .f32⟩
  | 18 => ⟨S32768x1024, .f32⟩
  | 19 => ⟨S32768x1024, .f32⟩
  | 20 => ⟨S32768x512, .f32⟩
  | 21 => ⟨S512x1024, .f32⟩
  | 22 => ⟨S32768x1024, .f32⟩
  | 23 => ⟨S32768x512, .f32⟩
  | 24 => ⟨S512x1024, .f32⟩
  | 25 => ⟨S32768x1024, .f32⟩
  | 26 => ⟨S32768x1024, .f32⟩
  | 27 => ⟨S32768x1024, .f32⟩
  | 28 => ⟨S_, .f32⟩
  | 29 => ⟨S32768x1024, .f32⟩
  | 30 => ⟨S32768x1024, .f32⟩
  | 31 => ⟨S_, .f32⟩
  | 32 => ⟨S32768x1024, .f32⟩
  | 33 => ⟨S32768x1024, .f32⟩
  | 34 => ⟨S32768x1024, .f32⟩
  | 35 => ⟨S32768x1024, .f32⟩
  | 36 => ⟨S32768x1024, .f32⟩
  | 37 => ⟨S_, .f32⟩
  | 38 => ⟨S32768x1024, .f32⟩
  | 39 => ⟨S32768x1024, .f32⟩
  | 40 => ⟨S_, .f32⟩
  | 41 => ⟨S32768x1024, .f32⟩
  | 42 => ⟨S32768x1024, .f32⟩
  | 43 => ⟨S32768x1024, .f32⟩
  | 44 => ⟨S32768x1024, .f32⟩
  | 45 => ⟨S1024x1024, .f32⟩
  | 46 => ⟨S32768x1024, .f32⟩
  | 47 => ⟨S1024, .f32⟩
  | 48 => ⟨S32768x1024, .f32⟩
  | 49 => ⟨S_, .f32⟩
  | 50 => ⟨S32768, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x1024, .f32⟩
  | 60 => ⟨S32768x1024, .f32⟩
  | 61 => ⟨S1x1024, .f32⟩
  | 62 => ⟨S32768x1024, .f32⟩
  | 63 => ⟨S32768x1024, .f32⟩
  | 64 => ⟨S32768x1024, .f32⟩
  | 65 => ⟨S1024, .f32⟩
  | 66 => ⟨S32768x1024, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | 76 => ⟨S32768x1, .f32⟩
  | 77 => ⟨S32768x1024, .f32⟩
  | 78 => ⟨S32768x1024, .f32⟩
  | 79 => ⟨S1x1024, .f32⟩
  | 80 => ⟨S32768x1024, .f32⟩
  | 81 => ⟨S32768x1024, .f32⟩
  | 82 => ⟨S1024x5632, .f32⟩
  | 83 => ⟨S2816x1024, .f32⟩
  | 84 => ⟨S32768x5632, .f32⟩
  | 85 => ⟨S32768x2816, .f32⟩
  | 86 => ⟨S32768x2816, .f32⟩
  | 87 => ⟨S32768x2816, .f32⟩
  | 88 => ⟨S32768x2816, .f32⟩
  | 89 => ⟨S_, .f32⟩
  | 90 => ⟨S32768x2816, .f32⟩
  | 91 => ⟨S32768x2816, .f32⟩
  | 92 => ⟨S_, .f32⟩
  | 93 => ⟨S32768x2816, .f32⟩
  | 94 => ⟨S32768x2816, .f32⟩
  | 95 => ⟨S32768x2816, .f32⟩
  | 96 => ⟨S32768x2816, .f32⟩
  | 97 => ⟨S32768x1024, .f32⟩
  | 98 => ⟨S1024, .f32⟩
  | 99 => ⟨S32768x1024, .f32⟩
  | 100 => ⟨S_, .f32⟩
  | 101 => ⟨S32768, .f32⟩
  | 102 => ⟨S32768x1, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S32768x1, .f32⟩
  | 110 => ⟨S32768x1024, .f32⟩
  | 111 => ⟨S32768x1024, .f32⟩
  | 112 => ⟨S1x1024, .f32⟩
  | 113 => ⟨S32768x1024, .f32⟩
  | 114 => ⟨S32768x1024, .f32⟩
  | 115 => ⟨S_, .f32⟩
  | 116 => ⟨S32768x1024, .f32⟩
  | 117 => ⟨S32768x1024, .f32⟩
  | 118 => ⟨S32768x1024, .f32⟩
  | 119 => ⟨S1024, .f32⟩
  | 120 => ⟨S32768x1024, .f32⟩
  | 121 => ⟨S_, .f32⟩
  | 122 => ⟨S32768, .f32⟩
  | 123 => ⟨S32768x1, .f32⟩
  | 124 => ⟨S_, .f32⟩
  | 125 => ⟨S32768x1, .f32⟩
  | 126 => ⟨S32768x1, .f32⟩
  | 127 => ⟨S_, .f32⟩
  | _ => ⟨S32768x1024, .f32⟩

abbrev hbmTy0_1 (i : Nat) : BufTy := match i % 128 with
  | 0 => ⟨S32768x1, .f32⟩
  | 1 => ⟨S32768x1, .f32⟩
  | 2 => ⟨S32768x1, .f32⟩
  | 3 => ⟨S32768x1024, .f32⟩
  | 4 => ⟨S32768x1024, .f32⟩
  | 5 => ⟨S1x1024, .f32⟩
  | 6 => ⟨S32768x1024, .f32⟩
  | 7 => ⟨S32768x1024, .f32⟩
  | 8 => ⟨S1024x1024, .f32⟩
  | 9 => ⟨S32768x1024, .f32⟩
  | 10 => ⟨S32768x1024, .f32⟩
  | 11 => ⟨S32768x1024, .f32⟩
  | 12 => ⟨S_, .f32⟩
  | 13 => ⟨S32768x1024, .f32⟩
  | 14 => ⟨S32768x1024, .f32⟩
  | 15 => ⟨S_, .f32⟩
  | 16 => ⟨S32768x1024, .f32⟩
  | 17 => ⟨S32768x1024, .f32⟩
  | 18 => ⟨S8x4096x256, .f32⟩
  | 19 => ⟨S32768x256, .f32⟩
  | 20 => ⟨S256x1024, .f32⟩
  | 21 => ⟨S32768x1024, .f32⟩
  | 22 => ⟨S32768x1024, .f32⟩
  | 23 => ⟨S1024, .f32⟩
  | 24 => ⟨S32768x1024, .f32⟩
  | 25 => ⟨S_, .f32⟩
  | 26 => ⟨S32768, .f32⟩
  | 27 => ⟨S32768x1, .f32⟩
  | 28 => ⟨S_, .f32⟩
  | 29 => ⟨S32768x1, .f32⟩
  | 30 => ⟨S32768x1, .f32⟩
  | 31 => ⟨S_, .f32⟩
  | 32 => ⟨S32768x1, .f32⟩
  | 33 => ⟨S32768x1, .f32⟩
  | 34 => ⟨S32768x1, .f32⟩
  | 35 => ⟨S32768x1024, .f32⟩
  | 36 => ⟨S32768x1024, .f32⟩
  | 37 => ⟨S1x1024, .f32⟩
  | 38 => ⟨S32768x1024, .f32⟩
  | 39 => ⟨S32768x1024, .f32⟩
  | 40 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩
abbrev main_cst_10 : Ref sig .tc := ⟨.hbm, 103, rfl⟩
abbrev main_v67 : Ref sig .tc := ⟨.hbm, 104, rfl⟩
abbrev main_v68 : Ref sig .tc := ⟨.hbm, 105, rfl⟩
abbrev main_cst_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_16 : Ref sig .tc := ⟨.hbm, 140, rfl⟩
abbrev main_v98 : Ref sig .tc := ⟨.hbm, 141, rfl⟩
abbrev main_v99 : Ref sig .tc := ⟨.hbm, 142, rfl⟩
abbrev main_cst_17 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_18 : Ref sig .tc := ⟨.hbm, 153, rfl⟩
abbrev main_v109 : Ref sig .tc := ⟨.hbm, 154, rfl⟩
abbrev main_v110 : Ref sig .tc := ⟨.hbm, 155, rfl⟩
abbrev main_cst_19 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩

abbrev nD : Nat := 1
abbrev τ : Topo := Topo.v7x

variable {F : FTy → Type} [FloatOps F]
-- ==== Mix.lean ====
abbrev S32768x1024 : Shape := ⟨2, ![32768, 1024]⟩
abbrev S1x1024 : Shape := ⟨2, ![1, 1024]⟩
abbrev S1x1024x6232 : Shape := ⟨3, ![1, 1024, 6232]⟩
abbrev S1x64 : Shape := ⟨2, ![1, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x128 : Shape := ⟨2, ![1, 128]⟩
abbrev S1024x6232 : Shape := ⟨2, ![1024, 6232]⟩
abbrev S1024x2048 : Shape := ⟨2, ![1024, 2048]⟩
abbrev S1024x72 : Shape := ⟨2, ![1024, 72]⟩
abbrev S1024x16 : Shape := ⟨2, ![1024, 16]⟩
abbrev S1024x40 : Shape := ⟨2, ![1024, 40]⟩
abbrev S1024x6272 : Shape := ⟨2, ![1024, 6272]⟩
abbrev S1024 : Shape := ⟨1, ![1024]⟩
abbrev S64 : Shape := ⟨1, ![64]⟩
abbrev S32768x1536 : Shape := ⟨2, ![32768, 1536]⟩
abbrev S32768x512 : Shape := ⟨2, ![32768, 512]⟩
abbrev S32768x2048 : Shape := ⟨2, ![32768, 2048]⟩
abbrev S32768x128 : Shape := ⟨2, ![32768, 128]⟩
abbrev S512x1024 : Shape := ⟨2, ![512, 1024]⟩
abbrev S512x128 : Shape := ⟨2, ![512, 128]⟩
abbrev S512x1536 : Shape := ⟨2, ![512, 1536]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x1536 : Shape := ⟨2, ![1024, 1536]⟩
abbrev S1024x512 : Shape := ⟨2, ![1024, 512]⟩
abbrev S1024x128 : Shape := ⟨2, ![1024, 128]⟩

abbrev nBuf : Space → Nat
  | .hbm => 87
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6232, .f32⟩
  | .hbm, ⟨3, _⟩ => ⟨S1x64, .f32⟩
  | .hbm, ⟨4, _⟩ => ⟨S4096, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096x1, .f32⟩
  | .hbm, ⟨20, _⟩ => ⟨S1x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x48, .f32⟩
  | .hbm, ⟨28, _⟩ => ⟨S_, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S4096x64, .f32⟩
  | .hbm, ⟨33, _⟩ => ⟨S4096x8, .f32⟩
  | .hbm, ⟨34, _⟩ => ⟨S4096x64, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S_, .f32⟩
  | .hbm, ⟨46, _⟩ => ⟨S8, .f32⟩
  | .hbm, ⟨47, _⟩ => ⟨S_, .f32⟩
  | .hbm, ⟨48, _⟩ => ⟨S1x128, .f32⟩
  | .hbm, ⟨49, _⟩ => ⟨S1x8, .f32⟩
  | .hbm, ⟨50, _⟩ => ⟨S_, .i32⟩
  | .hbm, ⟨51, _⟩ => ⟨S_, .i32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .i1⟩
  | .hbm, ⟨56, _⟩ => ⟨S_, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1024x6232, .f32⟩
  | .hbm, ⟨61, _⟩ => ⟨S1024x2048, .f32⟩
  | .hbm, ⟨62, _⟩ => ⟨S1024x2048, .f32⟩
  | .hbm, ⟨63, _⟩ => ⟨S1024x2048, .f32⟩
  | .hbm, ⟨64, _⟩ => ⟨S1024x72, .f32⟩
  | .hbm, ⟨65, _⟩ => ⟨S1024x16, .f32⟩
  | .hbm, ⟨66, _⟩ => ⟨S_, .f32⟩
  | .hbm, ⟨67, _⟩ => ⟨S1024x40, .f32⟩
  | .hbm, ⟨68, _⟩ => ⟨S1024x6272, .f32⟩
  | .hbm, ⟨69, _⟩ => ⟨S1024x6272, .bf16⟩
  | .hbm, ⟨70, _⟩ => ⟨S1024, .f32⟩
  | .hbm, ⟨71, _⟩ => ⟨S1x1024, .f32⟩
  | .hbm, ⟨72, _⟩ => ⟨S64, .f32⟩
  | .hbm, ⟨73, _⟩ => ⟨S_, .f32⟩
  | .hbm, ⟨74, _⟩ => ⟨S1x128, .f32⟩
  | .hbm, ⟨75, _⟩ => ⟨S1x64, .f32⟩
  | .hbm, ⟨76, _⟩ => ⟨S_, .i32⟩
  | .hbm, ⟨77, _⟩ => ⟨S_, .i32⟩
  | .hbm, ⟨78, _⟩ => ⟨S1x128, .f32⟩
  | .hbm, ⟨79, _⟩ => ⟨S32768x1536, .f32⟩
  | .hbm, ⟨80, _⟩ => ⟨S32768x512, .f32⟩
  | .hbm, ⟨81, _⟩ => ⟨S32768x512, .bf16⟩
  | .hbm, ⟨82, _⟩ => ⟨S32768x512, .bf16⟩
  | .hbm, ⟨83, _⟩ => ⟨S32768x512, .bf16⟩
  | .hbm, ⟨84, _⟩ => ⟨S32768x512, .bf16⟩
  | .hbm, ⟨85, _⟩ => ⟨S32768x2048, .bf16⟩
  | .hbm, ⟨86, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6272, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S512x1536, .f32⟩
  | .local _ .vmem, ⟨13, _⟩ => ⟨S512x1536, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x2048, .bf16⟩
  | .local _ .vmem, ⟨25, _⟩ => ⟨S512x2048, .bf16⟩
  | .local _ .vmem, ⟨26, _⟩ => ⟨S512x128, .f32⟩
  | .local _ .vmem, ⟨27, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_c_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_call0_v0 : Ref sig .tc := ⟨.hbm, 57, rfl⟩
abbrev main_call0_v1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_c_14 : Ref sig .tc := ⟨.hbm, 77, rfl⟩
abbrev main_v55 : Ref sig .tc := ⟨.hbm, 78, rfl⟩
abbrev main_v56_0 : Ref sig .tc := ⟨.hbm, 79, rfl⟩
abbrev main_v56_1 : Ref sig .tc := ⟨.hbm, 80, rfl⟩
abbrev main_v56_2 : Ref sig .tc := ⟨.hbm, 81, rfl⟩
abbrev main_v56_3 : Ref sig .tc := ⟨.hbm, 82, rfl⟩
abbrev main_v56_4 : Ref sig .tc := ⟨.hbm, 83, rfl⟩
abbrev main_v56_5 : Ref sig .tc := ⟨.hbm, 84, rfl⟩
abbrev main_v56_6 : Ref sig .tc := ⟨.hbm, 85, rfl⟩
abbrev main_v56_7 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RefMixIdeal.lean ====
abbrev S32768x1024 : Shape := ⟨2, ![32768, 1024]⟩
abbrev S1x1024 : Shape := ⟨2, ![1, 1024]⟩
abbrev S1x1024x6232 : Shape := ⟨3, ![1, 1024, 6232]⟩
abbrev S1x64 : Shape := ⟨2, ![1, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S1024 : Shape := ⟨1, ![1024]⟩
abbrev S32768 : Shape := ⟨1, ![32768]⟩
abbrev S32768x1 : Shape := ⟨2, ![32768, 1]⟩
abbrev S1024x6232 : Shape := ⟨2, ![1024, 6232]⟩
abbrev S32768x6232 : Shape := ⟨2, ![32768, 6232]⟩
abbrev S32768x1536 : Shape := ⟨2, ![32768, 1536]⟩
abbrev S32768x512 : Shape := ⟨2, ![32768, 512]⟩
abbrev S32768x8 : Shape := ⟨2, ![32768, 8]⟩
abbrev S32768x64 : Shape := ⟨2, ![32768, 64]⟩
abbrev S32768x2048 : Shape := ⟨2, ![32768, 2048]⟩
abbrev S8x4096x8x64 : Shape := ⟨4, ![8, 4096, 8, 64]⟩
abbrev S1x4096x1x8 : Shape := ⟨4, ![1, 4096, 1, 8]⟩
abbrev S8x4096x8x8 : Shape := ⟨4, ![8, 4096, 8, 8]⟩
abbrev S8x4096x8x48 : Shape := ⟨4, ![8, 4096, 8, 48]⟩
abbrev S64 : Shape := ⟨1, ![64]⟩
abbrev S8x4096x1x64 : Shape := ⟨4, ![8, 4096, 1, 64]⟩
abbrev S8x4096x1x8 : Shape := ⟨4, ![8, 4096, 1, 8]⟩
abbrev S8x4096x1x48 : Shape := ⟨4, ![8, 4096, 1, 48]⟩
abbrev S32768x40 : Shape := ⟨2, ![32768, 40]⟩
abbrev S32768x128 : Shape := ⟨2, ![32768, 128]⟩

abbrev nBuf : Space → Nat
  | .hbm => 162
  | .vmem => 0
  | .smem => 0
  | _ => 0

abbrev hbmTy0_0 (i : Nat) : BufTy := match i % 128 with
  | 0 => ⟨S32768x1024, .f32⟩
  | 1 => ⟨S1x1024, .f32⟩
  | 2 => ⟨S1x1024x6232, .f32⟩
  | 3 => ⟨S1x64, .f32⟩
  | 4 => ⟨S4096, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S4096x1, .f32⟩
  | 20 => ⟨S1x8, .f32⟩
  | 21 => ⟨S4096x8, .f32⟩
  | 22 => ⟨S4096x8, .f32⟩
  | 23 => ⟨S4096x8, .f32⟩
  | 24 => ⟨S4096x8, .f32⟩
  | 25 => ⟨S4096x8, .f32⟩
  | 26 => ⟨S1024, .f32⟩
  | 27 => ⟨S32768x1024, .f32⟩
  | 28 => ⟨S_, .f32⟩
  | 29 => ⟨S32768, .f32⟩
  | 30 => ⟨S32768x1, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S32768x1, .f32⟩
  | 38 => ⟨S32768x1024, .f32⟩
  | 39 => ⟨S32768x1024, .f32⟩
  | 40 => ⟨S1x1024, .f32⟩
  | 41 => ⟨S32768x1024, .f32⟩
  | 42 => ⟨S32768x1024, .f32⟩
  | 43 => ⟨S1024x6232, .f32⟩
  | 44 => ⟨S32768x6232, .f32⟩
  | 45 => ⟨S32768x1536, .f32⟩
  | 46 => ⟨S32768x512, .f32⟩
  | 47 => ⟨S32768x8, .f32⟩
  | 48 => ⟨S32768x8, .f32⟩
  | 49 => ⟨S32768x512, .f32⟩
  | 50 => ⟨S32768x512, .f32⟩
  | 51 => ⟨S32768x512, .f32⟩
  | 52 => ⟨S32768x512, .f32⟩
  | 53 => ⟨S32768x64, .f32⟩
  | 54 => ⟨S32768x8, .f32⟩
  | 55 => ⟨S32768x2048, .f32⟩
  | 56 => ⟨S8x4096x8x64, .f32⟩
  | 57 => ⟨S1x4096x1x8, .f32⟩
  | 58 => ⟨S1x4096x1x8, .f32⟩
  | 59 => ⟨S8x4096x8x8, .f32⟩
  | 60 => ⟨S8x4096x8x8, .f32⟩
  | 61 => ⟨S8x4096x8x48, .f32⟩
  | 62 => ⟨S8x4096x8x8, .f32⟩
  | 63 => ⟨S8x4096x8x8, .f32⟩
  | 64 => ⟨S8x4096x8x8, .f32⟩
  | 65 => ⟨S8x4096x8x8, .f32⟩
  | 66 => ⟨S8x4096x8x8, .f32⟩
  | 67 => ⟨S8x4096x8x8, .f32⟩
  | 68 => ⟨S8x4096x8x8, .f32⟩
  | 69 => ⟨S8x4096x8x8, .f32⟩
  | 70 => ⟨S8x4096x8x8, .f32⟩
  | 71 => ⟨S8x4096x8x8, .f32⟩
  | 72 => ⟨S8x4096x8x64, .f32⟩
  | 73 => ⟨S32768x512, .f32⟩
  | 74 => ⟨S8x4096x8x64, .f32⟩
  | 75 => ⟨S1x4096x1x8, .f32⟩
  | 76 => ⟨S1x4096x1x8, .f32⟩
  | 77 => ⟨S8x4096x8x8, .f32⟩
  | 78 => ⟨S8x4096x8x8, .f32⟩
  | 79 => ⟨S8x4096x8x48, .f32⟩
  | 80 => ⟨S8x4096x8x8, .f32⟩
  | 81 => ⟨S8x4096x8x8, .f32⟩
  | 82 => ⟨S8x4096x8x8, .f32⟩
  | 83 => ⟨S8x4096x8x8, .f32⟩
  | 84 => ⟨S8x4096x8x8, .f32⟩
  | 85 => ⟨S8x4096x8x8, .f32⟩
  | 86 => ⟨S8x4096x8x8, .f32⟩
  | 87 => ⟨S8x4096x8x8, .f32⟩
  | 88 => ⟨S8x4096x8x8, .f32⟩
  | 89 => ⟨S8x4096x8x8, .f32⟩
  | 90 => ⟨S8x4096x8x64, .f32⟩
  | 91 => ⟨S32768x512, .f32⟩
  | 92 => ⟨S8x4096x8x64, .f32⟩
  | 93 => ⟨S1x4096x1x8, .f32⟩
  | 94 => ⟨S1x4096x1x8, .f32⟩
  | 95 => ⟨S8x4096x8x8, .f32⟩
  | 96 => ⟨S8x4096x8x8, .f32⟩
  | 97 => ⟨S8x4096x8x48, .f32⟩
  | 98 => ⟨S8x4096x8x8, .f32⟩
  | 99 => ⟨S8x4096x8x8, .f32⟩
  | 100 => ⟨S8x4096x8x8, .f32⟩
  | 101 => ⟨S8x4096x8x8, .f32⟩
  | 102 => ⟨S8x4096x8x8, .f32⟩
  | 103 => ⟨S8x4096x8x8, .f32⟩
  | 104 => ⟨S8x4096x8x8, .f32⟩
  | 105 => ⟨S8x4096x8x8, .f32⟩
  | 106 => ⟨S8x4096x8x8, .f32⟩
  | 107 => ⟨S8x4096x8x8, .f32⟩
  | 108 => ⟨S8x4096x8x64, .f32⟩
  | 109 => ⟨S32768x512, .f32⟩
  | 110 => ⟨S64, .f32⟩
  | 111 => ⟨S32768x64, .f32⟩
  | 112 => ⟨S_, .f32⟩
  | 113 => ⟨S32768, .f32⟩
  | 114 => ⟨S32768x1, .f32⟩
  | 115 => ⟨S_, .f32⟩
  | 116 => ⟨S32768x1, .f32⟩
  | 117 => ⟨S32768x1, .f32⟩
  | 118 => ⟨S_, .f32⟩
  | 119 => ⟨S32768x1, .f32⟩
  | 120 => ⟨S32768x1, .f32⟩
  | 121 => ⟨S32768x1, .f32⟩
  | 122 => ⟨S32768x64, .f32⟩
  | 123 => ⟨S32768x64, .f32⟩
  | 124 => ⟨S1x64, .f32⟩
  | 125 => ⟨S32768x64, .f32⟩
  | 126 => ⟨S32768x64, .f32⟩
  | 127 => ⟨S8x4096x1x64, .f32⟩
  | _ => ⟨S32768x1024, .f32⟩

abbrev hbmTy0_1 (i : Nat) : BufTy := match i % 128 with
  | 0 => ⟨S1x4096x1x8, .f32⟩
  | 1 => ⟨S1x4096x1x8, .f32⟩
  | 2 => ⟨S8x4096x1x8, .f32⟩
  | 3 => ⟨S8x4096x1x8, .f32⟩
  | 4 => ⟨S8x4096x1x48, .f32⟩
  | 5 => ⟨S8x4096x1x8, .f32⟩
  | 6 => ⟨S8x4096x1x8, .f32⟩
  | 7 => ⟨S8x4096x1x8, .f32⟩
  | 8 => ⟨S8x4096x1x8, .f32⟩
  | 9 => ⟨S8x4096x1x8, .f32⟩
  | 10 => ⟨S8x4096x1x8, .f32⟩
  | 11 => ⟨S8x4096x1x8, .f32⟩
  | 12 => ⟨S8x4096x1x8, .f32⟩
  | 13 => ⟨S8x4096x1x8, .f32⟩
  | 14 => ⟨S8x4096x1x8, .f32⟩
  | 15 => ⟨S8x4096x1x64, .f32⟩
  | 16 => ⟨S32768x64, .f32⟩
  | 17 => ⟨S_, .f32⟩
  | 18 => ⟨S32768x512, .f32⟩
  | 19 => ⟨S32768x512, .f32⟩
  | 20 => ⟨S32768x512, .bf16⟩
  | 21 => ⟨S32768x512, .bf16⟩
  | 22 => ⟨S32768x512, .bf16⟩
  | 23 => ⟨S_, .f32⟩
  | 24 => ⟨S32768x512, .f32⟩
  | 25 => ⟨S32768x512, .f32⟩
  | 26 => ⟨S32768x512, .bf16⟩
  | 27 => ⟨S32768x2048, .bf16⟩
  | 28 => ⟨S_, .f32⟩
  | 29 => ⟨S32768x8, .f32⟩
  | 30 => ⟨S32768x8, .f32⟩
  | 31 => ⟨S_, .f32⟩
  | 32 => ⟨S32768x40, .f32⟩
  | 33 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_cst_6 : Ref sig .tc := ⟨.hbm, 112, rfl⟩
abbrev main_v101 : Ref sig .tc := ⟨.hbm, 113, rfl⟩
abbrev main_v102 : Ref sig .tc := ⟨.hbm, 114, rfl⟩
abbrev main_cst_7 : Ref sig .tc := ⟨.hbm, 115, rfl⟩
abbrev main_v103 : Ref sig .tc := ⟨.hbm, 116, rfl⟩
abbrev main_v104 : Ref sig .tc := ⟨.hbm, 117, rfl⟩
abbrev main_cst_8 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_cst_9 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_cst_10 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_cst_11 : Ref sig .tc := ⟨.hbm, 156, rfl⟩
abbrev main_v140 : Ref sig .tc := ⟨.hbm, 157, rfl⟩
abbrev main_v141 : Ref sig .tc := ⟨.hbm, 158, rfl⟩
abbrev main_cst_12 : Ref sig .tc := ⟨.hbm, 159, rfl⟩
abbrev main_v142 : Ref sig .tc := ⟨.hbm, 160, rfl⟩
abbrev main_v143 : Ref sig .tc := ⟨.hbm, 161, rfl⟩

abbrev nD : Nat := 1
abbrev τ : Topo := Topo.v7x

variable {F : FTy → Type} [FloatOps F]
-- ==== Gdn.lean ====
abbrev S32768x1536 : Shape := ⟨2, ![32768, 1536]⟩
abbrev S32768x512 : Shape := ⟨2, ![32768, 512]⟩
abbrev S32768x128 : Shape := ⟨2, ![32768, 128]⟩
abbrev S1x4x1536 : Shape := ⟨3, ![1, 4, 1536]⟩
abbrev S1x8 : Shape := ⟨2, ![1, 8]⟩
abbrev S1x64 : Shape := ⟨2, ![1, 64]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S4x1536 : Shape := ⟨2, ![4, 1536]⟩
abbrev S8 : Shape := ⟨1, ![8]⟩
abbrev S1x128 : Shape := ⟨2, ![1, 128]⟩
abbrev S8x1 : Shape := ⟨2, ![8, 1]⟩
abbrev S64 : Shape := ⟨1, ![64]⟩
abbrev S1x1x1x64 : Shape := ⟨4, ![1, 1, 1, 64]⟩
abbrev S1x1x8x64 : Shape := ⟨4, ![1, 1, 8, 64]⟩
abbrev S8x4096x1536 : Shape := ⟨3, ![8, 4096, 1536]⟩
abbrev S8x4096x512 : Shape := ⟨3, ![8, 4096, 512]⟩
abbrev S8x4096x128 : Shape := ⟨3, ![8, 4096, 128]⟩
abbrev S2x128x1536 : Shape := ⟨3, ![2, 128, 1536]⟩
abbrev S2x128x512 : Shape := ⟨3, ![2, 128, 512]⟩
abbrev S2x128x128 : Shape := ⟨3, ![2, 128, 128]⟩
abbrev S2x136x1536 : Shape := ⟨3, ![2, 136, 1536]⟩
abbrev S16x128x64 : Shape := ⟨3, ![16, 128, 64]⟩
abbrev S2x16x128x128 : Shape := ⟨4, ![2, 16, 128, 128]⟩
abbrev S16x128x128 : Shape := ⟨3, ![16, 128, 128]⟩
abbrev S16x64x64 : Shape := ⟨3, ![16, 64, 64]⟩
abbrev S8x1536 : Shape := ⟨2, ![8, 1536]⟩
abbrev S1x8x1536 : Shape := ⟨3, ![1, 8, 1536]⟩
abbrev S128x128 : Shape := ⟨2, ![128, 128]⟩
abbrev S1x128x1536 : Shape := ⟨3, ![1, 128, 1536]⟩
abbrev S128x1536 : Shape := ⟨2, ![128, 1536]⟩
abbrev S1x1536 : Shape := ⟨2, ![1, 1536]⟩
abbrev S128x512 : Shape := ⟨2, ![128, 512]⟩
abbrev S128x64 : Shape := ⟨2, ![128, 64]⟩
abbrev S1x128x64 : Shape := ⟨3, ![1, 128, 64]⟩
abbrev S1x128x128 : Shape := ⟨3, ![1, 128, 128]⟩
abbrev S8x128 : Shape := ⟨2, ![8, 128]⟩
abbrev S128x1 : Shape := ⟨2, ![128, 1]⟩
abbrev S1x1x128x128 : Shape := ⟨4, ![1, 1, 128, 128]⟩
abbrev S1x64x64 : Shape := ⟨3, ![1, 64, 64]⟩
abbrev S64x64 : Shape := ⟨2, ![64, 64]⟩
abbrev S1x1 : Shape := ⟨2, ![1, 1]⟩
abbrev S1x128x512 : Shape := ⟨3, ![1, 128, 512]⟩

abbrev nBuf : Space → Nat
  | .hbm => 78
  | .vmem => 28
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x128, .f32⟩
  | .hbm, ⟨3, _⟩ => ⟨S1x4x1536, .f32⟩
  | .hbm, ⟨4, _⟩ => ⟨S1x8, .f32⟩
  | .hbm, ⟨5, _⟩ => ⟨S1x8, .f32⟩
  | .hbm, ⟨6, _⟩ => ⟨S1x64, .f32⟩
  | .hbm, ⟨7, _⟩ => ⟨S512, .i32⟩
  | .hbm, ⟨8, _⟩ => ⟨S512x1, .i32⟩
  | .hbm, ⟨9, _⟩ => ⟨S_, .i32⟩
  | .hbm, ⟨10, _⟩ => ⟨S_, .i32⟩
  | .hbm, ⟨11, _⟩ => ⟨S512x1, .i32⟩
  | .hbm, ⟨12, _⟩ => ⟨S512x1, .i32⟩
  | .hbm, ⟨13, _⟩ => ⟨S512x1, .i32⟩
  | .hbm, ⟨14, _⟩ => ⟨S_, .i32⟩
  | .hbm, ⟨15, _⟩ => ⟨S512x1, .i32⟩
  | .hbm, ⟨16, _⟩ => ⟨S512x1, .i1⟩
  | .hbm, ⟨17, _⟩ => ⟨S512x1, .i32⟩
  | .hbm, ⟨18, _⟩ => ⟨S512x1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S512x1, .i1⟩
  | .hbm, ⟨23, _⟩ => ⟨S_, .i32⟩
  | .hbm, ⟨24, _⟩ => ⟨S512x1, .i32⟩
  | .hbm, ⟨25, _⟩ => ⟨S512x1, .i32⟩
  | .hbm, ⟨26, _⟩ => ⟨S512x1, .i32⟩
  | .hbm, ⟨27, _⟩ => ⟨S1x512, .i32⟩
  | .hbm, ⟨28, _⟩ => ⟨S_, .i32⟩
  | .hbm, ⟨29, _⟩ => ⟨S_, .i32⟩
  | .hbm, ⟨30, _⟩ => ⟨S1x512, .i32⟩
  | .hbm, ⟨31, _⟩ => ⟨S1x512, .i32⟩
  | .hbm, ⟨32, _⟩ => ⟨S1x512, .i32⟩
  | .hbm, ⟨33, _⟩ => ⟨S_, .i32⟩
  | .hbm, ⟨34, _⟩ => ⟨S1x512, .i32⟩
  | .hbm, ⟨35, _⟩ => ⟨S1x512, .i1⟩
  | .hbm, ⟨36, _⟩ => ⟨S1x512, .i32⟩
  | .hbm, ⟨37, _⟩ => ⟨S1x512, .i32⟩
  | .hbm, ⟨38, _⟩ => ⟨S_, .i32⟩
  | .hbm, ⟨39, _⟩ => ⟨S1x512, .i32⟩
  | .hbm, ⟨40, _⟩ => ⟨S1x512, .i1⟩
  | .hbm, ⟨41, _⟩ => ⟨S1x512, .i1⟩
  | .hbm, ⟨42, _⟩ => ⟨S_, .i32⟩
  | .hbm, ⟨43, _⟩ => ⟨S1x512, .i32⟩
  | .hbm, ⟨44, _⟩ => ⟨S1x512, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .bf16⟩
  | .hbm, ⟨50, _⟩ => ⟨S4x1536, .f32⟩
  | .hbm, ⟨51, _⟩ => ⟨S8, .f32⟩
  | .hbm, ⟨52, _⟩ => ⟨S_, .f32⟩
  | .hbm, ⟨53, _⟩ => ⟨S1x128, .f32⟩
  | .hbm, ⟨54, _⟩ => ⟨S1x8, .f32⟩
  | .hbm, ⟨55, _⟩ => ⟨S_, .i32⟩
  | .hbm, ⟨56, _⟩ => ⟨S_, .i32⟩
  | .hbm, ⟨57, _⟩ => ⟨S1x128, .f32⟩
  | .hbm, ⟨58, _⟩ => ⟨S8, .f32⟩
  | .hbm, ⟨59, _⟩ => ⟨S_, .f32⟩
  | .hbm, ⟨60, _⟩ => ⟨S1x128, .f32⟩
  | .hbm, ⟨61, _⟩ => ⟨S1x8, .f32⟩
  | .hbm, ⟨62, _⟩ => ⟨S_, .i32⟩
  | .hbm, ⟨63, _⟩ => ⟨S_, .i32⟩
  | .hbm, ⟨64, _⟩ => ⟨S1x128, .f32⟩
  | .hbm, ⟨65, _⟩ => ⟨S8, .f32⟩
  | .hbm, ⟨66, _⟩ => ⟨S8x1, .f32⟩
  | .hbm, ⟨67, _⟩ => ⟨S8, .f32⟩
  | .hbm, ⟨68, _⟩ => ⟨S8x1, .f32⟩
  | .hbm, ⟨69, _⟩ => ⟨S64, .f32⟩
  | .hbm, ⟨70, _⟩ => ⟨S1x64, .f32⟩
  | .hbm, ⟨71, _⟩ => ⟨S1x1x1x64, .f32⟩
  | .hbm, ⟨72, _⟩ => ⟨S1x1x8x64, .f32⟩
  | .hbm, ⟨73, _⟩ => ⟨S1x512, .f32⟩
  | .hbm, ⟨74, _⟩ => ⟨S8x4096x1536, .f32⟩
  | .hbm, ⟨75, _⟩ => ⟨S8x4096x512, .f32⟩
  | .hbm, ⟨76, _⟩ => ⟨S8x4096x128, .f32⟩
  | .hbm, ⟨77, _⟩ => ⟨S8x4096x512, .bf16⟩
  | .local _ .vmem, ⟨0, _⟩ => ⟨S2x128x1536, .f32⟩
  | .local _ .vmem, ⟨1, _⟩ => ⟨S2x128x1536, .f32⟩
  | .local _ .vmem, ⟨2, _⟩ => ⟨S2x128x512, .f32⟩
  | .local _ .vmem, ⟨3, _⟩ => ⟨S2x128x512, .f32⟩
  | .local _ .vmem, ⟨4, _⟩ => ⟨S2x128x128, .f32⟩
  | .local _ .vmem, ⟨5, _⟩ => ⟨S2x128x128, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S8x1, .f32⟩
  | .local _ .vmem, ⟨10, _⟩ => ⟨S8x1, .f32⟩
  | .local _ .vmem, ⟨11, _⟩ => ⟨S1x512, .f32⟩
  | .local _ .vmem, ⟨12, _⟩ => ⟨S512x512, .bf16⟩
  | .local _ .vmem, ⟨13, _⟩ => ⟨S2x128x512, .bf16⟩
  | .local _ .vmem, ⟨14, _⟩ => ⟨S2x128x512, .bf16⟩
  | .local _ .vmem, ⟨15, _⟩ => ⟨S2x136x1536, .f32⟩
  | .local _ .vmem, ⟨16, _⟩ => ⟨S16x128x64, .f32⟩
  | .local _ .vmem, ⟨17, _⟩ => ⟨S16x128x64, .f32⟩
  | .local _ .vmem, ⟨18, _⟩ => ⟨S16x128x64, .f32⟩
  | .local _ .vmem, ⟨19, _⟩ => ⟨S2x16x128x128, .bf16⟩
  | .local _ .vmem, ⟨20, _⟩ => ⟨S16x128x128, .bf16⟩
  | .local _ .vmem, ⟨21, _⟩ => ⟨S16x128x128, .f32⟩
  | .local _ .vmem, ⟨22, _⟩ => ⟨S16x128x64, .f32⟩
  | .local _ .vmem, ⟨23, _⟩ => ⟨S16x128x64, .bf16⟩
  | .local _ .vmem, ⟨24, _⟩ => ⟨S16x128x64, .bf16⟩
  | .local _ .vmem, ⟨25, _⟩ => ⟨S16x128x64, .bf16⟩
  | .local _ .vmem, ⟨26, _⟩ => ⟨S2x128x512, .f32⟩
  | .local _ .vmem, ⟨27, _⟩ => ⟨S16x64x64, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst : Ref sig .tc := ⟨.hbm, 52, rfl⟩
abbrev main_v11 : Ref sig .tc := ⟨.hbm, 53, rfl⟩
abbrev main_v12 : Ref sig .tc := ⟨.hbm, 54, rfl⟩
abbrev main_c_1 : Ref sig .tc := ⟨.hbm, 55, rfl⟩
abbrev main_c_2 : Ref sig .tc := ⟨.hbm, 56, rfl⟩
abbrev main_v13 : Ref sig .tc := ⟨.hbm, 57, rfl⟩
abbrev main_v14 : Ref sig .tc := ⟨.hbm, 58, rfl⟩
abbrev main_cst_3 : Ref sig .tc := ⟨.hbm, 59, rfl⟩
abbrev main_v15 : Ref sig .tc := ⟨.hbm, 60, rfl⟩
abbrev main_v16 : Ref sig .tc := ⟨.hbm, 61, rfl⟩
abbrev main_c_4 : Ref sig .tc := ⟨.hbm, 62, rfl⟩
abbrev main_c_5 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefGdnIdeal.lean ====
abbrev S32768x1536 : Shape := ⟨2, ![32768, 1536]⟩
abbrev S32768x512 : Shape := ⟨2, ![32768, 512]⟩
abbrev S32768x128 : Shape := ⟨2, ![32768, 128]⟩
abbrev S1x4x1536 : Shape := ⟨3, ![1, 4, 1536]⟩
abbrev S1x8 : Shape := ⟨2, ![1, 8]⟩
abbrev S1x64 : Shape := ⟨2, ![1, 64]⟩
abbrev S32768x8 : Shape := ⟨2, ![32768, 8]⟩
abbrev S8x4096x8 : Shape := ⟨3, ![8, 4096, 8]⟩
abbrev S8x4096x1536 : Shape := ⟨3, ![8, 4096, 1536]⟩
abbrev S4x1536 : Shape := ⟨2, ![4, 1536]⟩
abbrev S_ : Shape := ⟨0, ![]⟩
abbrev S8x4099x1536 : Shape := ⟨3, ![8, 4099, 1536]⟩
abbrev S1x1536 : Shape := ⟨2, ![1, 1536]⟩
abbrev S1536 : Shape := ⟨1, ![1536]⟩
abbrev S1x1x1536 : Shape := ⟨3, ![1, 1, 1536]⟩
abbrev S8x4096x512 : Shape := ⟨3, ![8, 4096, 512]⟩
abbrev S8x4096x8x64 : Shape := ⟨4, ![8, 4096, 8, 64]⟩
abbrev S8x4096x8x1 : Shape := ⟨4, ![8, 4096, 8, 1]⟩
abbrev S8 : Shape := ⟨1, ![8]⟩
abbrev S1x1x8 : Shape := ⟨3, ![1, 1, 8]⟩
abbrev S4096x8x8x64 : Shape := ⟨4, ![4096, 8, 8, 64]⟩
abbrev S4096x8x8 : Shape := ⟨3, ![4096, 8, 8]⟩
abbrev S8x8x64x64 : Shape := ⟨4, ![8, 8, 64, 64]⟩
abbrev S1x8x8x64 : Shape := ⟨4, ![1, 8, 8, 64]⟩
abbrev S8x8x64 : Shape := ⟨3, ![8, 8, 64]⟩
abbrev S1x8x8 : Shape := ⟨3, ![1, 8, 8]⟩
abbrev S8x8 : Shape := ⟨2, ![8, 8]⟩
abbrev S8x8x1x1 : Shape := ⟨4, ![8, 8, 1, 1]⟩
abbrev S8x8x1 : Shape := ⟨3, ![8, 8, 1]⟩
abbrev S8x8x64x1 : Shape := ⟨4, ![8, 8, 64, 1]⟩
abbrev S8x8x1x64 : Shape := ⟨4, ![8, 8, 1, 64]⟩
abbrev S64 : Shape := ⟨1, ![64]⟩
abbrev S1x1x1x64 : Shape := ⟨4, ![1, 1, 1, 64]⟩

abbrev nBuf : Space → Nat
  | .hbm => 210
  | .vmem => 0
  | .smem => 0
  | _ => 0

abbrev hbmTy0_0 (i : Nat) : BufTy := match i % 128 with
  | 0 => ⟨S32768x1536, .f32⟩
  | 1 => ⟨S32768x512, .f32⟩
  | 2 => ⟨S32768x128, .f32⟩
  | 3 => ⟨S1x4x1536, .f32⟩
  | 4 => ⟨S1x8, .f32⟩
  | 5 => ⟨S1x8, .f32⟩
  | 6 => ⟨S1x64, .f32⟩
  | 7 => ⟨S32768x8, .f32⟩
  | 8 => ⟨S8x4096x8, .f32⟩
  | 9 => ⟨S32768x8, .f32⟩
  | 10 => ⟨S8x4096x8, .f32⟩
  | 11 => ⟨S8x4096x1536, .f32⟩
  | 12 => ⟨S4x1536, .f32⟩
  | 13 => ⟨S_, .i32⟩
  | 14 => ⟨S_, .f32⟩
  | 15 => ⟨S8x4099x1536, .f32⟩
  | 16 => ⟨S8x4096x1536, .f32⟩
  | 17 => ⟨S1x1536, .f32⟩
  | 18 => ⟨S1536, .f32⟩
  | 19 => ⟨S1x1x1536, .f32⟩
  | 20 => ⟨S8x4096x1536, .f32⟩
  | 21 => ⟨S8x4096x1536, .f32⟩
  | 22 => ⟨S8x4096x1536, .f32⟩
  | 23 => ⟨S1x1536, .f32⟩
  | 24 => ⟨S1536, .f32⟩
  | 25 => ⟨S1x1x1536, .f32⟩
  | 26 => ⟨S8x4096x1536, .f32⟩
  | 27 => ⟨S8x4096x1536, .f32⟩
  | 28 => ⟨S8x4096x1536, .f32⟩
  | 29 => ⟨S8x4096x1536, .f32⟩
  | 30 => ⟨S1x1536, .f32⟩
  | 31 => ⟨S1536, .f32⟩
  | 32 => ⟨S1x1x1536, .f32⟩
  | 33 => ⟨S8x4096x1536, .f32⟩
  | 34 => ⟨S8x4096x1536, .f32⟩
  | 35 => ⟨S8x4096x1536, .f32⟩
  | 36 => ⟨S8x4096x1536, .f32⟩
  | 37 => ⟨S1x1536, .f32⟩
  | 38 => ⟨S1536, .f32⟩
  | 39 => ⟨S1x1x1536, .f32⟩
  | 40 => ⟨S8x4096x1536, .f32⟩
  | 41 => ⟨S8x4096x1536, .f32⟩
  | 42 => ⟨S8x4096x1536, .f32⟩
  | 43 => ⟨S8x4096x1536, .f32⟩
  | 44 => ⟨S8x4096x1536, .f32⟩
  | 45 => ⟨S_, .f32⟩
  | 46 => ⟨S8x4096x1536, .f32⟩
  | 47 => ⟨S8x4096x1536, .f32⟩
  | 48 => ⟨S_, .f32⟩
  | 49 => ⟨S8x4096x1536, .f32⟩
  | 50 => ⟨S8x4096x1536, .f32⟩
  | 51 => ⟨S8x4096x1536, .f32⟩
  | 52 => ⟨S8x4096x512, .f32⟩
  | 53 => ⟨S8x4096x512, .f32⟩
  | 54 => ⟨S8x4096x512, .f32⟩
  | 55 => ⟨S8x4096x8x64, .f32⟩
  | 56 => ⟨S8x4096x8x64, .f32⟩
  | 57 => ⟨S_, .f32⟩
  | 58 => ⟨S8x4096x8, .f32⟩
  | 59 => ⟨S8x4096x8x1, .f32⟩
  | 60 => ⟨S_, .f32⟩
  | 61 => ⟨S8x4096x8x1, .f32⟩
  | 62 => ⟨S8x4096x8x1, .f32⟩
  | 63 => ⟨S8x4096x8x1, .f32⟩
  | 64 => ⟨S8x4096x8x64, .f32⟩
  | 65 => ⟨S8x4096x8x64, .f32⟩
  | 66 => ⟨S_, .f32⟩
  | 67 => ⟨S8x4096x8x64, .f32⟩
  | 68 => ⟨S8x4096x8x64, .f32⟩
  | 69 => ⟨S8x4096x8x64, .f32⟩
  | 70 => ⟨S8x4096x8x64, .f32⟩
  | 71 => ⟨S_, .f32⟩
  | 72 => ⟨S8x4096x8, .f32⟩
  | 73 => ⟨S8x4096x8x1, .f32⟩
  | 74 => ⟨S_, .f32⟩
  | 75 => ⟨S8x4096x8x1, .f32⟩
  | 76 => ⟨S8x4096x8x1, .f32⟩
  | 77 => ⟨S8x4096x8x1, .f32⟩
  | 78 => ⟨S8x4096x8x64, .f32⟩
  | 79 => ⟨S8x4096x8x64, .f32⟩
  | 80 => ⟨S8x4096x8x64, .f32⟩
  | 81 => ⟨S8, .f32⟩
  | 82 => ⟨S8, .f32⟩
  | 83 => ⟨S8, .f32⟩
  | 84 => ⟨S8, .f32⟩
  | 85 => ⟨S1x1x8, .f32⟩
  | 86 => ⟨S8x4096x8, .f32⟩
  | 87 => ⟨S8x4096x8, .f32⟩
  | 88 => ⟨S_, .f32⟩
  | 89 => ⟨S8x4096x8, .f32⟩
  | 90 => ⟨S8x4096x8, .f32⟩
  | 91 => ⟨S8x4096x8, .f32⟩
  | 92 => ⟨S8x4096x8, .f32⟩
  | 93 => ⟨S8x4096x8, .i1⟩
  | 94 => ⟨S8x4096x8, .f32⟩
  | 95 => ⟨S8x4096x8, .f32⟩
  | 96 => ⟨S8x4096x8, .f32⟩
  | 97 => ⟨S8x4096x8, .f32⟩
  | 98 => ⟨S8x4096x8, .f32⟩
  | 99 => ⟨S8x4096x8, .f32⟩
  | 100 => ⟨S8x4096x8, .f32⟩
  | 101 => ⟨S8x4096x8, .f32⟩
  | 102 => ⟨S1x1x8, .f32⟩
  | 103 => ⟨S8x4096x8, .f32⟩
  | 104 => ⟨S8x4096x8, .f32⟩
  | 105 => ⟨S8x4096x8, .f32⟩
  | 106 => ⟨S8x4096x8, .f32⟩
  | 107 => ⟨S_, .f32⟩
  | 108 => ⟨S8x4096x8, .f32⟩
  | 109 => ⟨S8x4096x8, .f32⟩
  | 110 => ⟨S_, .f32⟩
  | 111 => ⟨S8x4096x8, .f32⟩
  | 112 => ⟨S8x4096x8, .f32⟩
  | 113 => ⟨S4096x8x8x64, .f32⟩
  | 114 => ⟨S4096x8x8x64, .f32⟩
  | 115 => ⟨S4096x8x8x64, .f32⟩
  | 116 => ⟨S4096x8x8, .f32⟩
  | 117 => ⟨S4096x8x8, .f32⟩
  | 118 => ⟨S_, .f32⟩
  | 119 => ⟨S8x8x64x64, .f32⟩
  | 120 => ⟨S_, .f32⟩
  | 121 => ⟨S4096x8x8x64, .f32⟩
  | 122 => ⟨S_, .i32⟩
  | 123 => ⟨S4096x8x8x64, .f32⟩
  | 124 => ⟨S4096x8x8x64, .f32⟩
  | 125 => ⟨S4096x8x8x64, .f32⟩
  | 126 => ⟨S4096x8x8, .f32⟩
  | 127 => ⟨S4096x8x8, .f32⟩
  | _ => ⟨S32768x1536, .f32⟩

abbrev hbmTy0_1 (i : Nat) : BufTy := match i % 128 with
  | 0 => ⟨S_, .i32⟩
  | 1 => ⟨S8x8x64x64, .f32⟩
  | 2 => ⟨S4096x8x8x64, .f32⟩
  | 3 => ⟨S_, .i32⟩
  | 4 => ⟨S_, .i1⟩
  | 5 => ⟨S_, .i32⟩
  | 6 => ⟨S_, .i32⟩
  | 7 => ⟨S_, .i32⟩
  | 8 => ⟨S1x8x8x64, .f32⟩
  | 9 => ⟨S8x8x64, .f32⟩
  | 10 => ⟨S_, .i32⟩
  | 11 => ⟨S_, .i32⟩
  | 12 => ⟨S_, .i32⟩
  | 13 => ⟨S1x8x8x64, .f32⟩
  | 14 => ⟨S8x8x64, .f32⟩
  | 15 => ⟨S_, .i32⟩
  | 16 => ⟨S_, .i32⟩
  | 17 => ⟨S_, .i32⟩
  | 18 => ⟨S1x8x8x64, .f32⟩
  | 19 => ⟨S8x8x64, .f32⟩
  | 20 => ⟨S_, .i32⟩
  | 21 => ⟨S_, .i32⟩
  | 22 => ⟨S1x8x8, .f32⟩
  | 23 => ⟨S8x8, .f32⟩
  | 24 => ⟨S_, .i32⟩
  | 25 => ⟨S_, .i32⟩
  | 26 => ⟨S1x8x8, .f32⟩
  | 27 => ⟨S8x8, .f32⟩
  | 28 => ⟨S8x8, .f32⟩
  | 29 => ⟨S8x8x1x1, .f32⟩
  | 30 => ⟨S8x8x64x64, .f32⟩
  | 31 => ⟨S8x8x64x64, .f32⟩
  | 32 => ⟨S8x8x64, .f32⟩
  | 33 => ⟨S8x8x64, .f32⟩
  | 34 => ⟨S8x8x1, .f32⟩
  | 35 => ⟨S8x8x64, .f32⟩
  | 36 => ⟨S8x8x64, .f32⟩
  | 37 => ⟨S8x8x64x1, .f32⟩
  | 38 => ⟨S8x8x1x64, .f32⟩
  | 39 => ⟨S8x8x64x64, .f32⟩
  | 40 => ⟨S8x8x64x64, .f32⟩
  | 41 => ⟨S8x8x64x64, .f32⟩
  | 42 => ⟨S8x8x64x64, .f32⟩
  | 43 => ⟨S8x8x64, .f32⟩
  | 44 => ⟨S1x8x8x64, .f32⟩
  | 45 => ⟨S_, .i32⟩
  | 46 => ⟨S_, .i32⟩
  | 47 => ⟨S_, .i32⟩
  | 48 => ⟨S4096x8x8x64, .f32⟩
  | 49 => ⟨S_, .i32⟩
  | 50 => ⟨S_, .i32⟩
  | 51 => ⟨S8x4096x8x64, .f32⟩
  | 52 => ⟨S64, .f32⟩
  | 53 => ⟨S8x4096x8x64, .f32⟩
  | 54 => ⟨S_, .f32⟩
  | 55 => ⟨S8x4096x8, .f32⟩
  | 56 => ⟨S8x4096x8x1, .f32⟩
  | 57 => ⟨S_, .f32⟩
  | 58 => ⟨S8x4096x8x1, .f32⟩
  | 59 => ⟨S8x4096x8x1, .f32⟩
  | 60 => ⟨S_, .f32⟩
  | 61 => ⟨S8x4096x8x1, .f32⟩
  | 62 => ⟨S8x4096x8x1, .f32⟩
  | 63 => ⟨S8x4096x8x1, .f32⟩
  | 64 => ⟨S8x4096x8x64, .f32⟩
  | 65 => ⟨S8x4096x8x64, .f32⟩
  | 66 => ⟨S1x1x1x64, .f32⟩
  | 67 => ⟨S8x4096x8x64, .f32⟩
  | 68 => ⟨S8x4096x8x64, .f32⟩
  | 69 => ⟨S8x4096x8x64, .f32⟩
  | 70 => ⟨S8x4096x8x64, .f32⟩
  | 71 => ⟨S8x4096x8x64, .f32⟩
  | 72 => ⟨S_, .f32⟩
  | 73 => ⟨S8x4096x8x64, .f32⟩
  | 74 => ⟨S8x4096x8x64, .f32⟩
  | 75 => ⟨S_, .f32⟩
  | 76 => ⟨S8x4096x8x64, .f32⟩
  | 77 => ⟨S8x4096x8x64, .f32⟩
  | 78 => ⟨S8x4096x8x64, .f32⟩
  | 79 => ⟨S8x4096x8x64, .f32⟩
  | 80 => ⟨S8x4096x512, .f32⟩
  | 81 => ⟨S8x4096x512, .bf16⟩
  | _ => ⟨S32768x1536, .f32⟩

abbrev hbmTy (i : Nat) : BufTy := match i / 128 with
  | 0 => hbmTy0_0 i
  | 1 => hbmTy0_1 i
  | _ => ⟨S32768x1536, .f32⟩

abbrev bufTy : (tb : Table) → Fin (tcTables nBuf tb) → BufTy
  | .hbm, ⟨i, _⟩ => hbmTy i
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst : Ref sig .tc := ⟨.hbm, 57, rfl⟩
abbrev main_v40 : Ref sig .tc := ⟨.hbm, 58, rfl⟩
abbrev main_v41 : Ref sig .tc := ⟨.hbm, 59, rfl⟩
abbrev main_cst_0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_1 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_2 : Ref sig .tc := ⟨.hbm, 71, rfl⟩
abbrev main_v51 : Ref sig .tc := ⟨.hbm, 72, rfl⟩
abbrev main_v52 : Ref sig .tc := ⟨.hbm, 73, rfl⟩
abbrev main_cst_3 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_4 : Ref sig .tc := ⟨.hbm, 107, rfl⟩
abbrev main_v72 : Ref sig .tc := ⟨.hbm, 108, rfl⟩
abbrev main_v73 : Ref sig .tc := ⟨.hbm, 109, rfl⟩
abbrev main_cst_5 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_6 : Ref sig .tc := ⟨.hbm, 118, rfl⟩
abbrev main_v81 : Ref sig .tc := ⟨.hbm, 119, rfl⟩
abbrev main_cst_7 : Ref sig .tc := ⟨.hbm, 120, rfl⟩
abbrev main_v82 : Ref sig .tc := ⟨.hbm, 121, rfl⟩
abbrev main_c_8 : Ref sig .tc := ⟨.hbm, 122, rfl⟩
abbrev main_v83_0 : Ref sig .tc := ⟨.hbm, 123, rfl⟩
abbrev main_v83_1 : Ref sig .tc := ⟨.hbm, 124, rfl⟩
abbrev main_v83_2 : Ref sig .tc := ⟨.hbm, 125, rfl⟩
abbrev main_v83_3 : Ref sig .tc := ⟨.hbm, 126, rfl⟩
abbrev main_v83_4 : Ref sig .tc := ⟨.hbm, 127, rfl⟩
abbrev main_v83_5 : Ref sig .tc := ⟨.hbm, 128, rfl⟩
abbrev main_v83_6 : Ref sig .tc := ⟨.hbm, 129, rfl⟩
abbrev main_v83_7 : Ref sig .tc := ⟨.hbm, 130, rfl⟩
abbrev main_while0c_c_19 : Ref sig .tc := ⟨.hbm, 131, rfl⟩
abbrev main_while0c_v104 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_c_1 : Ref sig .tc := ⟨.hbm, 135, rfl⟩
abbrev main_while0b_call3_v0 : Ref sig .tc := ⟨.hbm, 136, rfl⟩
abbrev main_while0b_v104 : Ref sig .tc := ⟨.hbm, 137, rfl⟩
abbrev main_while0b_call4_c : Ref sig .tc := ⟨.hbm, 138, rfl⟩
abbrev main_while0b_call4_c_0 : Ref sig .tc := ⟨.hbm, 139, rfl⟩
abbrev main_while0b_call4_c_1 : Ref sig .tc := ⟨.hbm, 140, rfl⟩
abbrev main_while0b_call4_v0 : Ref sig .tc := ⟨.hbm, 141, rfl⟩
abbrev main_while0b_v105 : Ref sig .tc := ⟨.hbm, 142, rfl⟩
abbrev main_while0b_call5_c : Ref sig .tc := ⟨.hbm, 143, rfl⟩
abbrev main_while0b_call5_c_0 : Ref sig .tc := ⟨.hbm, 144, rfl⟩
abbrev main_while0b_call5_c_1 : Ref sig .tc := ⟨.hbm, 145, rfl⟩
abbrev main_while0b_call5_v0 : Ref sig .tc := ⟨.hbm, 146, rfl⟩
abbrev main_while0b_v106 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_v0 : Ref sig .tc := ⟨.hbm, 150, rfl⟩
abbrev main_while0b_v107 : Ref sig .tc := ⟨.hbm, 151, rfl⟩
abbrev main_while0b_call7_c : Ref sig .tc := ⟨.hbm, 152, rfl⟩
abbrev main_while0b_call7_c_0 : Ref sig .tc := ⟨.hbm, 153, rfl⟩
abbrev main_while0b_call7_v0 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_v115 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_call8_v0 : Ref sig .tc := ⟨.hbm, 172, rfl⟩
abbrev main_while0b_call8_c : Ref sig .tc := ⟨.hbm, 173, rfl⟩
abbrev main_while0b_call8_c_0 : Ref sig .tc := ⟨.hbm, 174, rfl⟩
abbrev main_while0b_call8_c_1 : Ref sig .tc := ⟨.hbm, 175, rfl⟩
abbrev main_while0b_v125 : Ref sig .tc := ⟨.hbm, 176, rfl⟩
abbrev main_while0b_c_19 : Ref sig .tc := ⟨.hbm, 177, rfl⟩
abbrev main_while0b_v126 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_cst_9 : Ref sig .tc := ⟨.hbm, 182, rfl⟩
abbrev main_v87 : Ref sig .tc := ⟨.hbm, 183, rfl⟩
abbrev main_v88 : Ref sig .tc := ⟨.hbm, 184, rfl⟩
abbrev main_cst_10 : Ref sig .tc := ⟨.hbm, 185, rfl⟩
abbrev main_v89 : Ref sig .tc := ⟨.hbm, 186, rfl⟩
abbrev main_v90 : Ref sig .tc := ⟨.hbm, 187, rfl⟩
abbrev main_cst_11 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_call9_v0 : Ref sig .tc := ⟨.hbm, 198, rfl⟩
abbrev main_call9_v1 : Ref sig .tc := ⟨.hbm, 199, rfl⟩
abbrev main_call9_cst : Ref sig .tc := ⟨.hbm, 200, rfl⟩
abbrev main_call9_v2 : Ref sig .tc := ⟨.hbm, 201, rfl⟩
abbrev main_call9_v3 : Ref sig .tc := ⟨.hbm, 202, rfl⟩
abbrev main_call9_cst_0 : Ref sig .tc := ⟨.hbm, 203, rfl⟩
abbrev main_call9_v4 : Ref sig .tc := ⟨.hbm, 204, rfl⟩
abbrev main_call9_v5 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩

abbrev nD : Nat := 1
abbrev τ : Topo := Topo.v7x

variable {F : FTy → Type} [FloatOps F]

abbrev main_while0_count : Scf.Loop 32 := ⟨0#32, 4096#32, 1#32⟩
-- ==== Proof.RefFrames.lean ====
module

public import proofs.«01_k».proof.Defs
public import proofs.«01_k».proof.Proof.Gen.RefFfn1Ideal.Run
public import proofs.«01_k».proof.Proof.Gen.RefFfn2Ideal.Run
public import proofs.«01_k».proof.Proof.Gen.RefGdnIdeal.Run
public import proofs.«01_k».proof.Proof.Gen.RefMixIdeal.Run
public import Idealize.ShloMosaic.Lib.Claim

@[expose] public section

/-! # The references run to the end and leave their arguments as they were

A reference declares no semaphore, so its counters are all at zero for want of any. -/

set_option maxRecDepth 16384

noncomputable section

namespace Cert.RefFrames

open Idealize.ShloMosaic

/-- A machine with no semaphore has no counter off zero. -/
theorem no_counter {nD : Nat} {τ : Topo} {sig : RefSig} (h : SemLoc sig → False) (s : MemSt nD τ sig (Elt Ideal)) : s.sem = fun _ => 0 :=
  funext fun x => (h x.2).elim

theorem ffn1 : Cert.quiescent_RefFfn1Ideal := fun m g _ =>
  (θ_run Cert.RefFfn1Ideal.defs _ _).mono
    (fun r h => ⟨fun c => (h c).2, no_counter (sig := Cert.RefFfn1Ideal.sig) (fun s => by rcases s with ⟨⟨_, h⟩⟩ | ⟨⟨_, h⟩⟩ <;> exact absurd h (Nat.not_lt_zero _)) r.2⟩) (Cert.RefFfn1Ideal.Value.run m g)

theorem ffn2 : Cert.quiescent_RefFfn2Ideal := fun m g _ =>
  (θ_run Cert.RefFfn2Ideal.defs _ _).mono
    (fun r h => ⟨fun c => (h c).2, no_counter (sig := Cert.RefFfn2Ideal.sig) (fun s => by rcases s with ⟨⟨_, h⟩⟩ | ⟨⟨_, h⟩⟩ <;> exact absurd h (Nat.not_lt_zero _)) r.2⟩) (Cert.RefFfn2Ideal.Value.run m g)

theorem mix : Cert.quiescent_RefMixIdeal := fun m g _ =>
  (θ_run Cert.RefMixIdeal.defs _ _).mono
    (fun r h => ⟨fun c => (h c).2.2.2.2.2.2.2.2, no_counter (sig := Cert.RefMixIdeal.sig) (fun s => by rcases s with ⟨⟨_, h⟩⟩ | ⟨⟨_, h⟩⟩ <;> exact absurd h (Nat.not_lt_zero _)) r.2⟩) (Cert.RefMixIdeal.Value.run m g)

theorem gdn : Cert.quiescent_RefGdnIdeal := fun m g _ =>
  (θ_run Cert.RefGdnIdeal.defs _ _).mono
    (fun r h => ⟨fun c => (h c).2, no_counter (sig := Cert.RefGdnIdeal.sig) (fun s => by rcases s with ⟨⟨_, h⟩⟩ | ⟨⟨_, h⟩⟩ <;> exact absurd h (Nat.not_lt_zero _)) r.2⟩) (Cert.RefGdnIdeal.Value.run m g)

end Cert.RefFrames

end
-- ==== Proof.FfnSpec.lean ====
module

public import Idealize.ShloMosaic.Lib.Pointwise

@[expose] public section

/-! # One token row of the feed-forward layers, over the extended reals

The row functions both programs compute: root-mean-square normalisation of a row of width 1024,
the gated unit at one hidden coordinate, and the half-step of the residual stream. -/

noncomputable section

namespace Cert.Ffn

open Idealize.ShloMosaic

/-- The programs' constant for the width 1024. -/
def width : EReal := Ideal.ofBits .f32 0x44800000#32
/-- The programs' small constant of the normalisation. -/
def eps : EReal := Ideal.ofBits .f32 0x358637BD#32
/-- The programs' constant one half. -/
def half : EReal := Ideal.ofBits .f32 0x3F000000#32

/-- A row of width 1024 normalised by its root mean square and scaled by `g`. -/
def rms (x g : Fin 1024 → EReal) (j : Fin 1024) : EReal :=
  x j * Ideal.rsqrt (Ideal.div (∑ k, x k * x k) width + eps) * g j

/-- The logistic function. -/
def lgst (y : EReal) : EReal := Ideal.div 1 (1 + Ideal.exp (-y))

/-- A row times a column of a matrix. -/
def proj {m n : Nat} (u : Fin m → EReal) (w : Fin m → Fin n → EReal) (f : Fin n) : EReal :=
  ∑ k, u k * w k f

/-- The gated unit of a gate value and a linear value, the gate passed through `y ↦ y · lgst y`. -/
def gated (a b : EReal) : EReal := a * lgst a * b

/-- The gated unit of a row over `n` hidden coordinates, times the matrix `wo`. -/
def part {n : Nat} (u : Fin 1024 → EReal) (wg wu : Fin 1024 → Fin n → EReal) (wo : Fin n → Fin 1024 → EReal)
    (l : Fin 1024) : EReal :=
  ∑ f, gated (proj u wg f) (proj u wu f) * wo f l

/-- The feed-forward half-step on one row: the gate columns are the first 2816 of the input matrix, the linear
    columns the last 2816. -/
def ffn (x g : Fin 1024 → EReal) (w : Fin 1024 → Fin 5632 → EReal) (wo : Fin 2816 → Fin 1024 → EReal)
    (g' : Fin 1024 → EReal) (j : Fin 1024) : EReal :=
  x j + half * rms (part (rms x g) (fun k (f : Fin 2816) => w k ⟨f, by omega⟩)
    (fun k (f : Fin 2816) => w k ⟨2816 + f, by omega⟩) wo) g' j

/-- The two mixer branches merged under their gates: the first 1024 gate coordinates go with the first branch, the
    last 1024 with the second. -/
def merged (g : Fin 2048 → EReal) (oa ob : Fin 512 → EReal) (wa wb : Fin 512 → Fin 1024 → EReal) (d : Fin 1024) :
    EReal :=
  lgst (g ⟨d, by omega⟩) * proj oa wa d + lgst (g ⟨1024 + d, by omega⟩) * proj ob wb d

/-- A row plus the normalised row `a`. -/
def plus (x a g : Fin 1024 → EReal) (j : Fin 1024) : EReal := x j + rms a g j

/-- The per-layer embedding of a token, gated by the residual row. -/
def gate (h g : Fin 1024 → EReal) (wg : Fin 1024 → Fin 1024 → EReal) (p : Fin 256 → EReal)
    (wp : Fin 256 → Fin 1024 → EReal) (l : Fin 1024) : EReal :=
  lgst (proj (rms h g) wg l) * proj p wp l

/-- The hidden coordinates taken in two runs, of 1536 and of 1280, add up to all 2816. -/
theorem part_split (u : Fin 1024 → EReal) (wg wu : Fin 1024 → Fin 2816 → EReal) (wo : Fin 2816 → Fin 1024 → EReal)
    (l : Fin 1024) :
    part u wg wu wo l
      = part u (fun k (f : Fin 1536) => wg k ⟨f, by omega⟩) (fun k (f : Fin 1536) => wu k ⟨f, by omega⟩)
          (fun (f : Fin 1536) => wo ⟨f, by omega⟩) l
        + part u (fun k (f : Fin 1280) => wg k ⟨1536 + f, by omega⟩) (fun k (f : Fin 1280) => wu k ⟨1536 + f, by omega⟩)
          (fun (f : Fin 1280) => wo ⟨1536 + f, by omega⟩) l :=
  Fin.sum_univ_two_halves 1536 1280 rfl _

/-- The half-step put together from matrices read in pieces: two runs of gate columns, of linear columns and of
    rows of the output matrix. -/
theorem ffn_of_parts {x x' g₁ g₁' g₂ g₂' : Fin 1024 → EReal} {w : Fin 1024 → Fin 5632 → EReal}
    {wo : Fin 2816 → Fin 1024 → EReal} {wg wu : Fin 1024 → Fin 1536 → EReal} {wo₁ : Fin 1536 → Fin 1024 → EReal}
    {wg' wu' : Fin 1024 → Fin 1280 → EReal} {wo₂ : Fin 1280 → Fin 1024 → EReal} (j : Fin 1024)
    (hx : ∀ k, x k = x' k) (h₁ : ∀ k, g₁ k = g₁' k) (h₂ : ∀ k, g₂ k = g₂' k)
    (hg : ∀ k (f : Fin 1536), wg k f = w k ⟨f, by omega⟩) (hu : ∀ k (f : Fin 1536), wu k f = w k ⟨2816 + f, by omega⟩)
    (ho : ∀ (f : Fin 1536) l, wo₁ f l = wo ⟨f, by omega⟩ l)
    (hg' : ∀ k (f : Fin 1280), wg' k f = w k ⟨1536 + f, by omega⟩)
    (hu' : ∀ k (f : Fin 1280), wu' k f = w k ⟨2816 + (1536 + f), by omega⟩)
    (ho' : ∀ (f : Fin 1280) l, wo₂ f l = wo ⟨1536 + f, by omega⟩ l) :
    x j + half * rms (fun l => part (rms x g₁) wg wu wo₁ l + part (rms x g₁) wg' wu' wo₂ l) g₂ j
      = ffn x' g₁' w wo g₂' j := by
  obtain rfl : x = x' := funext hx
  obtain rfl : g₁ = g₁' := funext h₁
  obtain rfl : g₂ = g₂' := funext h₂
  obtain rfl := funext fun k => funext (hg k)
  obtain rfl := funext fun k => funext (hu k)
  obtain rfl := funext fun k => funext (ho k)
  obtain rfl := funext fun k => funext (hg' k)
  obtain rfl := funext fun k => funext (hu' k)
  obtain rfl := funext fun k => funext (ho' k)
  unfold ffn
  rw [show part (rms x g₁) (fun k (f : Fin 2816) => w k ⟨f, by omega⟩)
    (fun k (f : Fin 2816) => w k ⟨2816 + f, by omega⟩) wo = _ from funext fun l => part_split _ _ _ _ l]

theorem plus_congr {x x' a a' g g' : Fin 1024 → EReal} (hx : ∀ k, x k = x' k) (ha : ∀ k, a k = a' k)
    (hg : ∀ k, g k = g' k) (j : Fin 1024) : plus x a g j = plus x' a' g' j := by
  obtain rfl := funext hx; obtain rfl := funext ha; obtain rfl := funext hg; rfl

theorem mixed_congr {g g' : Fin 2048 → EReal} {oa oa' ob ob' : Fin 512 → EReal}
    {wa wa' wb wb' : Fin 512 → Fin 1024 → EReal} {wo wo' : Fin 1024 → Fin 1024 → EReal} (hg : ∀ k, g k = g' k)
    (ha : ∀ k, oa k = oa' k) (hb : ∀ k, ob k = ob' k) (hwa : ∀ k d, wa k d = wa' k d) (hwb : ∀ k d, wb k d = wb' k d)
    (ho : ∀ k d, wo k d = wo' k d) (j : Fin 1024) :
    proj (merged g oa ob wa wb) wo j = proj (merged g' oa' ob' wa' wb') wo' j := by
  obtain rfl := funext hg; obtain rfl := funext ha; obtain rfl := funext hb
  obtain rfl := funext fun k => funext (hwa k)
  obtain rfl := funext fun k => funext (hwb k)
  obtain rfl := funext fun k => funext (ho k)
  rfl

theorem gate_congr {h h' g g' : Fin 1024 → EReal} {wg wg' : Fin 1024 → Fin 1024 → EReal} {p p' : Fin 256 → EReal}
    {wp wp' : Fin 256 → Fin 1024 → EReal} (hh : ∀ k, h k = h' k) (hg : ∀ k, g k = g' k)
    (hw : ∀ k d, wg k d = wg' k d) (hp : ∀ k, p k = p' k) (hwp : ∀ k d, wp k d = wp' k d) (j : Fin 1024) :
    gate h g wg p wp j = gate h' g' wg' p' wp' j := by
  obtain rfl := funext hh; obtain rfl := funext hg; obtain rfl := funext hp
  obtain rfl := funext fun k => funext (hw k)
  obtain rfl := funext fun k => funext (hwp k)
  rfl

end Cert.Ffn

end
-- ==== Proof.Ffn1Kernel.lean ====
module

public import proofs.«01_k».proof.Proof.FfnSpec
public import proofs.«01_k».proof.Proof.Gen.Ffn1Ideal.Skeleton

@[expose] public section

/-! # The first feed-forward half-step: what the kernel body stores, row by row -/

set_option maxRecDepth 16384

noncomputable section

namespace Cert.Ffn1Kernel

open Cert.Ffn Cert.Ffn1Ideal Cert.Ffn1Ideal.Gen Idealize.ShloMosaic

/-- The normalised row the body multiplies by the input matrix. -/
theorem normed (x : FVec Ideal S512x1024 .f32) (g : FVec Ideal S1x1024 .f32) (r : Fin 512) (k : Fin 1024) :
    k0_pay3 (F := Ideal) x g (ix2 r k) = rms (fun k => x (ix2 r k)) (fun k => g (ix2 0 k)) k := by
  pointwise [k0_pay3, k0_pay2, rms, width, eps]

/-- The contribution of the first 1536 hidden coordinates. -/
theorem first (x : FVec Ideal S512x1024 .f32) (g : FVec Ideal S1x1024 .f32)
    (wg wu : FVec Ideal S1024x1536 .bf16) (wo : FVec Ideal S1536x1024 .bf16) (r : Fin 512) (l : Fin 1024) :
    k0_pay4 (F := Ideal) x g wg wu wo (ix2 r l)
      = part (rms (fun k => x (ix2 r k)) (fun k => g (ix2 0 k))) (fun k f => wg (ix2 k f)) (fun k f => wu (ix2 k f))
          (fun f l => wo (ix2 f l)) l := by
  pointwise [k0_pay4, normed, part, gated, proj, lgst, zero_sub]

/-- The row the body stores, from the two runs of hidden coordinates. -/
theorem stored (x : FVec Ideal S512x1024 .f32) (g : FVec Ideal S1x1024 .f32)
    (wg wu : FVec Ideal S1024x1536 .bf16) (wo : FVec Ideal S1536x1024 .bf16)
    (wg' wu' : FVec Ideal S1024x1280 .bf16) (wo' : FVec Ideal S1280x1024 .bf16)
    (g' : FVec Ideal S1x1024 .f32) (r : Fin 512) (l : Fin 1024) :
    k0_pay1 (F := Ideal) (k0_pay2 x) (k0_pay3 x g) (k0_pay4 x g wg wu wo) (k0_pay5 wg') wu' wo' g' (ix2 r l)
      = x (ix2 r l) + half * rms (fun l =>
          part (rms (fun k => x (ix2 r k)) (fun k => g (ix2 0 k))) (fun k f => wg (ix2 k f)) (fun k f => wu (ix2 k f))
            (fun f l => wo (ix2 f l)) l
          + part (rms (fun k => x (ix2 r k)) (fun k => g (ix2 0 k))) (fun k f => wg' (ix2 k f))
            (fun k f => wu' (ix2 k f)) (fun f l => wo' (ix2 f l)) l) (fun k => g' (ix2 0 k)) l := by
  pointwise [k0_pay1, k0_pay2, k0_pay5, first, normed, part, gated, proj, lgst, rms, half, width, eps, zero_sub]

end Cert.Ffn1Kernel

end
-- ==== Proof.Ffn1Value.lean ====
module

public import proofs.«01_k».proof.Proof.Ffn1Kernel
public import proofs.«01_k».proof.Proof.Gen.Ffn1Ideal.Value
public import Idealize.ShloMosaic.Lib.Pipeline.ValueKit

@[expose] public section

/-! # The first feed-forward half-step: the array the kernel leaves -/

set_option maxRecDepth 16384

noncomputable section

namespace Cert.Ffn1Value

open Cert.Ffn Cert.Ffn1Ideal Cert.Ffn1Ideal.Gen Idealize.ShloMosaic Idealize.ShloMosaic.TcCoe Idealize.SL.Sem
open Idealize.ShloMosaic.Pipeline (Dat)

/-- The layer's row function, row by row of the token array. -/
def G (x : FVec Ideal S8x4096x1024 .f32) (g : FVec Ideal S1x1024 .f32) (w : FVec Ideal S1x1024x5632 .f32)
    (wo : FVec Ideal S1x2816x1024 .f32) (g' : FVec Ideal S1x1024 .f32) : FVec Ideal S32768x1024 .f32 :=
  fun i => ffn (fun k => shapeCast S32768x1024 x shapeCasts_S8x4096x1024_S32768x1024 (ix2 (i 0) k))
    (fun k => g (ix2 0 k)) (fun k f => w (ix3 0 k f)) (fun f l => wo (ix3 0 f l)) (fun k => g' (ix2 0 k)) (i 1)

variable (m : (ℓ : Loc nD τ sig) → Buf (Elt Ideal) ℓ)

/-- Which block of each array a grid point reads and writes. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The row a grid point stores is the layer's row function of the arguments. -/
theorem point (c : Dev nD) (t : Fin cfg0.N) (y : S512x1024.Idx) :
    out0_5 (iblk m c 0 t) (iblk m c 1 t) (iblk m c 2 t) (iblk m c 3 t) (iblk m c 4 t) y
      = G (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  frame_out
  idx_vars y
  have hb : t.val * 512 + y0.val < 32768 := by
    have hN : cfg0.N = 64 := by decide +kernel
    have := t.isLt; have := y0.isLt; omega
  have hj : ((cfg0.win 5).blk t).view.emb (ix2 y0 y1) = ix2 ⟨t.val * 512 + y0.val, hb⟩ y1 := by blk_ext [idx t]
  refine (Ffn1Kernel.stored _ _ _ _ _ _ _ _ _ _ _).trans (Eq.trans ?_ (congrArg _ hj.symm))
  refine ffn_of_parts (x := fun k => iblk m c 0 t (ix2 y0 k)) (g₁ := fun k => iblk m c 1 t (ix2 0 k))
    (g₂ := fun k => iblk m c 4 t (ix2 0 k)) y1 ?_ ?_ ?_ ?_ ?_ ?_ ?_ ?_ ?_ <;> intros <;> (try pointwise) <;> blk_point [iblk, V, idx t]

/-- The output array after the run. -/
theorem final (c : Dev nD) : (dats m 0 c).arrAt 5 (cfgs 0).N
    = G (m ((c : Thread nD τ).loc main_arg0)) (m ((c : Thread nD τ).loc main_arg1))
          (m ((c : Thread nD τ).loc main_arg2)) (m ((c : Thread nD τ).loc main_arg3))
          (m ((c : Thread nD τ).loc main_arg4)) := by
  refine (dats m 0 c).arrAt_eq_of_covers 5 _ (by decide +kernel) fun t _ y => ?_
  blk_simp
  rw [after0_5]
  exact point m c t y

end Cert.Ffn1Value

end
-- ==== Proof.Ffn1Ref.lean ====
module

public import proofs.«01_k».proof.Proof.FfnSpec
public import proofs.«01_k».proof.Proof.Gen.RefFfn1Ideal.Read

@[expose] public section

/-! # The first feed-forward half-step: the reference, row by row -/

set_option maxRecDepth 16384

noncomputable section

namespace Cert.Ffn1Ref

open Cert.Ffn Cert.RefFfn1Ideal Cert.RefFfn1Ideal.Read Idealize.ShloMosaic

variable (x : FVec Ideal S8x4096x1024 .f32) (g : FVec Ideal S1x1024 .f32) (w : FVec Ideal S1x1024x5632 .f32)
  (wo : FVec Ideal S1x2816x1024 .f32) (g' : FVec Ideal S1x1024 .f32)

/-- The normalised row. -/
theorem normed (t : Fin 32768) (k : Fin 1024) :
    val_main_v14 (F := Ideal) x g (ix2 t k)
      = rms (fun k => val_main_v0 (F := Ideal) x (ix2 t k)) (fun k => g (ix2 0 k)) k := by
  pointwise [val_main_v14, val_main_v13, val_main_v12, val_main_v11, val_main_v10, val_main_v9, val_main_v8,
    val_main_v7, val_main_cst_1, val_main_v6, val_main_v5, val_main_cst_0, val_main_v4, val_main_v3, val_main_cst,
    val_main_v2, val_main_v1, rms, width, eps]

/-- The feed-forward sum of the reference. -/
theorem inner (t : Fin 32768) (l : Fin 1024) :
    val_main_v22 (F := Ideal) x g w wo (ix2 t l)
      = part (rms (fun k => val_main_v0 (F := Ideal) x (ix2 t k)) (fun k => g (ix2 0 k)))
          (fun k (f : Fin 2816) => w (ix3 0 k ⟨f, by omega⟩))
          (fun k (f : Fin 2816) => w (ix3 0 k ⟨2816 + f, by omega⟩)) (fun f l => wo (ix3 0 f l)) l := by
  pointwise [val_main_v22, val_main_v21, val_main_v20, val_main_v19, val_main_v18, val_main_v17, val_main_v16,
    val_main_v15, val_main_call0_v5, val_main_call0_v4, val_main_call0_v3, val_main_call0_v2, val_main_call0_v1,
    val_main_call0_v0, val_main_call0_cst, val_main_call0_cst_0, normed, part, gated, proj, lgst]

/-- The reference's result, one row's function. -/
theorem result (t : Fin 32768) (l : Fin 1024) :
    val_main_v39 (F := Ideal) x g w wo g' (ix2 t l)
      = ffn (fun k => val_main_v0 (F := Ideal) x (ix2 t k)) (fun k => g (ix2 0 k)) (fun k f => w (ix3 0 k f))
          (fun f l => wo (ix3 0 f l)) (fun k => g' (ix2 0 k)) l := by
  pointwise [val_main_v39, val_main_v38, val_main_v37, val_main_cst_5, val_main_v36, val_main_v35, val_main_v34,
    val_main_v33, val_main_v32, val_main_v31, val_main_v30, val_main_v29, val_main_v28, val_main_v27, val_main_v26,
    val_main_v25, val_main_v24, val_main_v23, val_main_cst_2, val_main_cst_3, val_main_cst_4, inner, ffn, rms, half,
    width, eps]

end Cert.Ffn1Ref

end
-- ==== Proof.Ffn1Claim.lean ====
module

public import proofs.«01_k».proof.Defs
public import proofs.«01_k».proof.Proof.Ffn1Value
public import proofs.«01_k».proof.Proof.Ffn1Ref
public import proofs.«01_k».proof.Proof.Gen.RefFfn1Ideal.Run
public import Idealize.ShloMosaic.Lib.Claim

@[expose] public section

/-! # The first feed-forward half-step: kernel and reference leave the same array -/

set_option maxRecDepth 16384

noncomputable section

namespace Cert.Ffn1Claim

open Idealize.ShloMosaic Idealize.SL.Sem

/-- The reference's array is the row function of its arguments. -/
theorem reference (x : FVec Ideal Cert.RefFfn1Ideal.S8x4096x1024 .f32) (g : FVec Ideal Cert.RefFfn1Ideal.S1x1024 .f32)
    (w : FVec Ideal Cert.RefFfn1Ideal.S1x1024x5632 .f32) (wo : FVec Ideal Cert.RefFfn1Ideal.S1x2816x1024 .f32)
    (g' : FVec Ideal Cert.RefFfn1Ideal.S1x1024 .f32) :
    Cert.RefFfn1Ideal.Read.val_main_v39 (F := Ideal) x g w wo g' = Cert.Ffn1Value.G x g w wo g' := by
  funext i
  rw [eq_ix2 i]
  exact Cert.Ffn1Ref.result x g w wo g' (i 0) (i 1)

theorem algebraic : Cert.algebraic_Ffn1Ideal_RefFfn1Ideal := by
  pair_intro
  · run_from Cert.Ffn1Ideal.Gen.run_main m g
  · run_from Cert.RefFfn1Ideal.Value.run m' g'
    rw [Cert.Ffn1Value.final m c, Cert.RefFfn1Ideal.Read.val_main_v39_eq, reference]
    obtain ⟨h0, h1, h2, h3, h4⟩ := hagree c
    rw [h0, h1, h2, h3, h4]

end Cert.Ffn1Claim

end
-- ==== Proof.Ffn2Kernel.lean ====
module

public import proofs.«01_k».proof.Proof.FfnSpec
public import proofs.«01_k».proof.Proof.Gen.Ffn2Ideal.Skeleton

@[expose] public section

/-! # The mixer's merge, the second feed-forward half-step and the per-layer embedding: what the kernel body
stores, row by row -/

set_option maxRecDepth 16384

noncomputable section

namespace Cert.Ffn2Kernel

open Cert.Ffn Cert.Ffn2Ideal Cert.Ffn2Ideal.Gen Idealize.ShloMosaic

/-- The mixer's output projection of the merged branches. -/
theorem mixed (g : FVec Ideal S512x2048 .bf16) (oa : FVec Ideal S512x512 .bf16) (wa : FVec Ideal S512x1024 .bf16)
    (ob : FVec Ideal S512x512 .bf16) (wb : FVec Ideal S512x1024 .bf16) (wo : FVec Ideal S1024x1024 .bf16)
    (r : Fin 512) (l : Fin 1024) :
    k0_pay2 (F := Ideal) g oa wa ob wb wo (ix2 r l)
      = proj (merged (fun k => g (ix2 r k)) (fun k => oa (ix2 r k)) (fun k => ob (ix2 r k)) (fun k d => wa (ix2 k d))
          (fun k d => wb (ix2 k d))) (fun d l => wo (ix2 d l)) l := by
  pointwise [k0_pay2, merged, proj, lgst, zero_sub]

/-- The residual row after the mixer. -/
theorem resid (x a : FVec Ideal S512x1024 .f32) (gm : FVec Ideal S1x1024 .f32) (r : Fin 512) (k : Fin 1024) :
    k0_pay4 (F := Ideal) x a (mulf a a) gm (ix2 r k)
      = plus (fun k => x (ix2 r k)) (fun k => a (ix2 r k)) (fun k => gm (ix2 0 k)) k := by
  pointwise [k0_pay4, plus, rms, width, eps]

/-- The normalised row the feed-forward unit starts from. -/
theorem normed (x a : FVec Ideal S512x1024 .f32) (gm gp : FVec Ideal S1x1024 .f32) (r : Fin 512) (k : Fin 1024) :
    k0_pay5 (F := Ideal) x a (mulf a a) gm gp (ix2 r k)
      = rms (plus (fun k => x (ix2 r k)) (fun k => a (ix2 r k)) (fun k => gm (ix2 0 k))) (fun k => gp (ix2 0 k)) k := by
  pointwise [k0_pay5, resid, plus, rms, width, eps]

/-- The residual row after the feed-forward unit, from the two runs of hidden coordinates. -/
theorem half_step (x a : FVec Ideal S512x1024 .f32) (gm gp : FVec Ideal S1x1024 .f32)
    (wg wu : FVec Ideal S1024x1536 .bf16) (wo : FVec Ideal S1536x1024 .bf16)
    (wg' wu' : FVec Ideal S1024x1280 .bf16) (wo' : FVec Ideal S1280x1024 .bf16)
    (g' : FVec Ideal S1x1024 .f32) (r : Fin 512) (l : Fin 1024) :
    k0_pay10 (F := Ideal) (k0_pay4 x a (mulf a a) gm)
      (k0_pay9 (k0_pay5 x a (mulf a a) gm gp) (k0_pay6 x a (mulf a a) gm gp wg) (k0_pay7 x a (mulf a a) gm gp wu)
        (k0_pay8 x a (mulf a a) gm gp wg) wo wg' wu' wo' g') (ix2 r l)
      = plus (fun k => x (ix2 r k)) (fun k => a (ix2 r k)) (fun k => gm (ix2 0 k)) l
        + half * rms (fun l =>
          part (rms (plus (fun k => x (ix2 r k)) (fun k => a (ix2 r k)) (fun k => gm (ix2 0 k))) (fun k => gp (ix2 0 k)))
            (fun k f => wg (ix2 k f)) (fun k f => wu (ix2 k f)) (fun f l => wo (ix2 f l)) l
          + part (rms (plus (fun k => x (ix2 r k)) (fun k => a (ix2 r k)) (fun k => gm (ix2 0 k))) (fun k => gp (ix2 0 k)))
            (fun k f => wg' (ix2 k f)) (fun k f => wu' (ix2 k f)) (fun f l => wo' (ix2 f l)) l)
          (fun k => g' (ix2 0 k)) l := by
  pointwise [k0_pay10, k0_pay9, k0_pay8, k0_pay7, k0_pay6, resid, normed, part, gated, proj, lgst, half, zero_sub]
  pointwise [rms, width, eps]

/-- The gated per-layer embedding. -/
theorem embedded (y b : FVec Ideal S512x1024 .f32) (g : FVec Ideal S1x1024 .f32) (wg : FVec Ideal S1024x1024 .bf16)
    (p : FVec Ideal S512x256 .f32) (wp : FVec Ideal S256x1024 .bf16) (r : Fin 512) (l : Fin 1024) :
    k0_pay11 (F := Ideal) y b g wg p wp (ix2 r l)
      = gate (fun k => k0_pay10 (F := Ideal) y b (ix2 r k)) (fun k => g (ix2 0 k)) (fun k l => wg (ix2 k l))
          (fun k => p (ix2 r k)) (fun k l => wp (ix2 k l)) l := by
  pointwise [k0_pay11, gate, proj, lgst, rms, width, eps, zero_sub]

/-- The row the body stores. -/
theorem stored (y b : FVec Ideal S512x1024 .f32) (g : FVec Ideal S1x1024 .f32) (wg : FVec Ideal S1024x1024 .bf16)
    (p : FVec Ideal S512x256 .f32) (wp : FVec Ideal S256x1024 .bf16) (g' : FVec Ideal S1x1024 .f32)
    (r : Fin 512) (l : Fin 1024) :
    k0_pay1 (F := Ideal) (k0_pay10 y b) (k0_pay11 y b g wg p wp) (k0_pay12 y b g wg p wp)
      (Scalar.ofBits .f32 0x358637BD#32) g' (ix2 r l)
      = plus (fun k => k0_pay10 (F := Ideal) y b (ix2 r k))
          (gate (fun k => k0_pay10 (F := Ideal) y b (ix2 r k)) (fun k => g (ix2 0 k)) (fun k l => wg (ix2 k l))
            (fun k => p (ix2 r k)) (fun k l => wp (ix2 k l))) (fun k => g' (ix2 0 k)) l := by
  pointwise [k0_pay1, k0_pay12, embedded, plus, rms, width, eps]

end Cert.Ffn2Kernel

end
-- ==== Proof.Ffn2Value.lean ====
module

public import proofs.«01_k».proof.Proof.Ffn2Kernel
public import proofs.«01_k».proof.Proof.Gen.Ffn2Ideal.Value
public import Idealize.ShloMosaic.Lib.Pipeline.ValueKit

@[expose] public section

/-! # The mixer's merge, the second feed-forward half-step and the per-layer embedding: the array the kernel leaves -/

set_option maxRecDepth 16384

noncomputable section

namespace Cert.Ffn2Value

open Cert.Ffn Cert.Ffn2Ideal Cert.Ffn2Ideal.Gen Idealize.ShloMosaic Idealize.ShloMosaic.TcCoe Idealize.SL.Sem
open Idealize.ShloMosaic.Pipeline (Dat)

/-- The residual stream after the mixer. -/
def X1 (x0 : FVec Ideal S32768x1024 .f32) (x1 x2 : FVec Ideal S32768x512 .bf16) (x3 : FVec Ideal S32768x2048 .bf16)
    (x5 x6 : FVec Ideal S1x512x1024 .f32) (x7 : FVec Ideal S1x1024x1024 .f32) (x8 : FVec Ideal S1x1024 .f32)
    (t : Fin 32768) : Fin 1024 → EReal :=
  plus (fun k => x0 (ix2 t k)) (proj (merged (fun k => x3 (ix2 t k)) (fun k => x1 (ix2 t k)) (fun k => x2 (ix2 t k))
    (fun k d => x5 (ix3 0 k d)) (fun k d => x6 (ix3 0 k d))) (fun d l => x7 (ix3 0 d l))) (fun k => x8 (ix2 0 k))

/-- The residual stream after the feed-forward unit, from the stream after the mixer. -/
def X2 (h : Fin 32768 → Fin 1024 → EReal) (x9 x10 : FVec Ideal S1x1024 .f32) (x11 : FVec Ideal S1x1024x5632 .f32)
    (x12 : FVec Ideal S1x2816x1024 .f32) (t : Fin 32768) : Fin 1024 → EReal :=
  ffn (h t) (fun k => x9 (ix2 0 k)) (fun k f => x11 (ix3 0 k f)) (fun f l => x12 (ix3 0 f l)) (fun k => x10 (ix2 0 k))

/-- The layer's result, from the stream after the feed-forward unit. -/
def G (h : Fin 32768 → Fin 1024 → EReal) (x4 : FVec Ideal S1x8x4096x256 .f32) (x13 x14 : FVec Ideal S1x1024 .f32)
    (x15 : FVec Ideal S1x1024x1024 .f32) (x16 : FVec Ideal S1x256x1024 .f32) : FVec Ideal S32768x1024 .f32 :=
  fun i => plus (h (i 0)) (gate (h (i 0)) (fun k => x13 (ix2 0 k)) (fun k l => x15 (ix3 0 k l))
    (fun k => x4 (ix4 0 ⟨(i 0).val / 4096, by have := (i 0).isLt; change (i 0).val < 32768 at this; omega⟩
      ⟨(i 0).val % 4096, Nat.mod_lt _ (by omega)⟩ k)) (fun k l => x16 (ix3 0 k l))) (fun k => x14 (ix2 0 k)) (i 1)

variable (m : (ℓ : Loc nD τ sig) → Buf (Elt Ideal) ℓ)

/-- The argument arrays' layer result. -/
def out (c : Dev nD) : FVec Ideal S32768x1024 .f32 :=
  G (X2 (X1 (m ((c : Thread nD τ).loc main_arg0)) (m ((c : Thread nD τ).loc main_arg1))
      (m ((c : Thread nD τ).loc main_arg2)) (m ((c : Thread nD τ).loc main_arg3)) (m ((c : Thread nD τ).loc main_arg5))
      (m ((c : Thread nD τ).loc main_arg6)) (m ((c : Thread nD τ).loc main_arg7)) (m ((c : Thread nD τ).loc main_arg8)))
      (m ((c : Thread nD τ).loc main_arg9)) (m ((c : Thread nD τ).loc main_arg10))
      (m ((c : Thread nD τ).loc main_arg11)) (m ((c : Thread nD τ).loc main_arg12)))
    (m ((c : Thread nD τ).loc main_arg4)) (m ((c : Thread nD τ).loc main_arg13)) (m ((c : Thread nD τ).loc main_arg14))
    (m ((c : Thread nD τ).loc main_arg15)) (m ((c : Thread nD τ).loc main_arg16))

/-- Which block of each array a grid point reads and writes. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0] ∧ win0_12.index t = ![t.val, 0] ∧ win0_13.index t = ![0, 0] ∧ win0_14.index t = ![0, 0]
    ∧ win0_15.index t = ![0, 0] ∧ win0_16.index t = ![0, 0] ∧ win0_17.index t = ![t.val, 0] :=
  (by decide +kernel : ∀ t : Fin grid0.N, _)

set_option maxHeartbeats 1600000 in
/-- The mixer's projection in a block's row. -/
theorem mixer (c : Dev nD) (t : Fin cfg0.N) (r : Fin 512) (hb : t.val * 512 + r.val < 32768) (k : Fin 1024) :
    plus (fun k => iblk m c 0 t (ix2 r k)) (proj (merged (fun k => iblk m c 7 t (ix2 r k))
      (fun k => iblk m c 5 t (ix2 r k)) (fun k => iblk m c 6 t (ix2 r k)) (fun k d => iblk m c 8 t (ix2 k d))
      (fun k d => iblk m c 9 t (ix2 k d))) (fun d l => iblk m c 10 t (ix2 d l))) (fun k => iblk m c 11 t (ix2 0 k)) k
      = X1 (m ((c : Thread nD τ).loc main_arg0)) (m ((c : Thread nD τ).loc main_arg1)) (m ((c : Thread nD τ).loc
        main_arg2)) (m ((c : Thread nD τ).loc main_arg3)) (m ((c : Thread nD τ).loc main_arg5)) (m ((c : Thread nD
        τ).loc main_arg6)) (m ((c : Thread nD τ).loc main_arg7)) (m ((c : Thread nD τ).loc main_arg8)) ⟨t.val * 512
        + r.val, hb⟩ k := by
  refine plus_congr (fun k => ?_) (mixed_congr (fun k => ?_) (fun k => ?_) (fun k => ?_) (fun k d => ?_)
    (fun k d => ?_) (fun k d => ?_)) (fun k => ?_) k <;> blk_point [iblk, V, idx t]

set_option maxHeartbeats 1600000 in
/-- The residual row after the feed-forward unit, in a block. -/
theorem stream (c : Dev nD) (t : Fin cfg0.N) (r : Fin 512) (hb : t.val * 512 + r.val < 32768) (k : Fin 1024) :
    k0_pay10 (F := Ideal) (k0_pay15 (iblk m c 0 t) (iblk m c 1 t) (iblk m c 2 t) (iblk m c 3 t) (iblk m c 4 t) (iblk
      m c 5 t) (iblk m c 6 t) (iblk m c 7 t) (iblk m c 8 t) (iblk m c 9 t) (iblk m c 10 t) (iblk m c 11 t) (iblk m c
      12 t) (iblk m c 13 t) (iblk m c 14 t) (iblk m c 15 t) (iblk m c 16 t)) (k0_pay16 (iblk m c 0 t) (iblk m c 1 t)
      (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk
      m c 16 t)) (ix2 r k)
      = X2 (X1 (m ((c : Thread nD τ).loc main_arg0)) (m ((c : Thread nD τ).loc main_arg1)) (m ((c : Thread nD τ).loc
        main_arg2)) (m ((c : Thread nD τ).loc main_arg3)) (m ((c : Thread nD τ).loc main_arg5)) (m ((c : Thread nD
        τ).loc main_arg6)) (m ((c : Thread nD τ).loc main_arg7)) (m ((c : Thread nD τ).loc main_arg8))) (m ((c :
        Thread nD τ).loc main_arg9)) (m ((c : Thread nD τ).loc main_arg10)) (m ((c : Thread nD τ).loc main_arg11))
        (m ((c : Thread nD τ).loc main_arg12)) ⟨t.val * 512 + r.val, hb⟩ k := by
  unfold k0_pay15 k0_pay16 k0_pay13 k0_pay14
  refine (Ffn2Kernel.half_step _ _ _ _ _ _ _ _ _ _ _ _ _).trans ?_
  simp only [Ffn2Kernel.mixed]
  pointwise
  refine ffn_of_parts (x := plus (fun k => iblk m c 0 t (ix2 r k)) (proj (merged (fun k => iblk m c 7 t (ix2 r k))
      (fun k => iblk m c 5 t (ix2 r k)) (fun k => iblk m c 6 t (ix2 r k)) (fun k d => iblk m c 8 t (ix2 k d))
      (fun k d => iblk m c 9 t (ix2 k d))) (fun d l => iblk m c 10 t (ix2 d l))) (fun k => iblk m c 11 t (ix2 0 k)))
    (g₁ := fun k => iblk m c 1 t (ix2 0 k)) (g₂ := fun k => iblk m c 4 t (ix2 0 k)) k (mixer m c t r hb)
    ?_ ?_ ?_ ?_ ?_ ?_ ?_ ?_ <;> intros <;> blk_point [iblk, V, idx t]

set_option maxHeartbeats 1600000 in
/-- The row a grid point stores is the layer's row function of the arguments. -/
theorem point (c : Dev nD) (t : Fin cfg0.N) (y : S512x1024.Idx) :
    out0_17 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) y
      = out m c (((cfg0.win 17).blk t).view.emb y) := by
  frame_out
  idx_vars y
  have hb : t.val * 512 + y0.val < 32768 := by
    have hN : cfg0.N = 64 := by decide +kernel
    have := t.isLt; have := y0.isLt; omega
  have hj : ((cfg0.win 17).blk t).view.emb (ix2 y0 y1) = ix2 ⟨t.val * 512 + y0.val, hb⟩ y1 := by blk_ext [idx t]
  refine (Ffn2Kernel.stored _ _ _ _ _ _ _ _ _).trans (Eq.trans ?_ (congrArg _ hj.symm))
  refine (plus_congr (stream m c t y0 hb) (gate_congr (stream m c t y0 hb) (fun k => ?_) (fun k d => ?_)
    (fun k => ?_) (fun k d => ?_)) (fun k => ?_) y1) <;> blk_point [iblk, V, idx t]

/-- The output array after the run. -/
theorem final (c : Dev nD) : (dats m 0 c).arrAt 17 (cfgs 0).N = out m c := by
  refine (dats m 0 c).arrAt_eq_of_covers 17 _ (by decide +kernel) fun t _ y => ?_
  blk_simp
  rw [after0_17]
  exact point m c t y

end Cert.Ffn2Value

end
-- ==== Proof.Ffn2Ref.lean ====
module

public import proofs.«01_k».proof.Proof.FfnSpec
public import proofs.«01_k».proof.Proof.Gen.RefFfn2Ideal.Read

@[expose] public section

/-! # The mixer's merge, the second feed-forward half-step and the per-layer embedding: the reference, row by row -/

set_option maxRecDepth 16384

noncomputable section

namespace Cert.Ffn2Ref

open Cert.Ffn Cert.RefFfn2Ideal Cert.RefFfn2Ideal.Read Idealize.ShloMosaic

variable (x0 : FVec Ideal S32768x1024 .f32) (x1 x2 : FVec Ideal S32768x512 .bf16) (x3 : FVec Ideal S32768x2048 .bf16)
  (x4 : FVec Ideal S1x8x4096x256 .f32) (x5 x6 : FVec Ideal S1x512x1024 .f32) (x7 : FVec Ideal S1x1024x1024 .f32)
  (x8 x9 x10 : FVec Ideal S1x1024 .f32) (x11 : FVec Ideal S1x1024x5632 .f32) (x12 : FVec Ideal S1x2816x1024 .f32)
  (x13 x14 : FVec Ideal S1x1024 .f32) (x15 : FVec Ideal S1x1024x1024 .f32) (x16 : FVec Ideal S1x256x1024 .f32)

/-- The mixer's output projection of the merged branches. -/
theorem mixed (t : Fin 32768) (l : Fin 1024) :
    val_main_v25 (F := Ideal) x1 x2 x3 x5 x6 x7 (ix2 t l)
      = proj (merged (fun k => x3 (ix2 t k)) (fun k => x1 (ix2 t k)) (fun k => x2 (ix2 t k)) (fun k d => x5 (ix3 0 k d))
          (fun k d => x6 (ix3 0 k d))) (fun d l => x7 (ix3 0 d l)) l := by
    pointwise [val_main_v25, val_main_v24, val_main_v23, val_main_v22, val_main_v21, val_main_v20, val_main_cst_2,
    val_main_v19, val_main_v18, val_main_cst_1, val_main_v17, val_main_v16, val_main_v15, val_main_v14, val_main_v13,
    val_main_cst_0, val_main_v12, val_main_v11, val_main_cst, val_main_v10, val_main_v9, val_main_v8, val_main_v7,
    val_main_v6, val_main_v5, val_main_v4, val_main_v3, val_main_v2, val_main_v1, val_main_v0, merged, proj, lgst]

/-- The residual row after the mixer. -/
theorem resid (t : Fin 32768) (l : Fin 1024) :
    val_main_v40 (F := Ideal) x0 x1 x2 x3 x5 x6 x7 x8 (ix2 t l)
      = plus (fun k => x0 (ix2 t k)) (fun k => val_main_v25 (F := Ideal) x1 x2 x3 x5 x6 x7 (ix2 t k))
          (fun k => x8 (ix2 0 k)) l := by
    pointwise [val_main_v40, val_main_v39, val_main_v38, val_main_v37, val_main_v36, val_main_v35, val_main_v34,
    val_main_v33, val_main_v32, val_main_cst_5, val_main_v31, val_main_v30, val_main_cst_4, val_main_v29,
    val_main_v28, val_main_cst_3, val_main_v27, val_main_v26, plus, rms, width, eps]

/-- The normalised row the feed-forward unit starts from. -/
theorem normed (t : Fin 32768) (l : Fin 1024) :
    val_main_v54 (F := Ideal) x0 x1 x2 x3 x5 x6 x7 x8 x9 (ix2 t l)
      = rms (fun k => val_main_v40 (F := Ideal) x0 x1 x2 x3 x5 x6 x7 x8 (ix2 t k)) (fun k => x9 (ix2 0 k)) l := by
    pointwise [val_main_v54, val_main_v53, val_main_v52, val_main_v51, val_main_v50, val_main_v49, val_main_v48,
    val_main_v47, val_main_cst_8, val_main_v46, val_main_v45, val_main_cst_7, val_main_v44, val_main_v43,
    val_main_cst_6, val_main_v42, val_main_v41, rms, width, eps]

/-- The feed-forward sum. -/
theorem inner (t : Fin 32768) (l : Fin 1024) :
    val_main_v62 (F := Ideal) x0 x1 x2 x3 x5 x6 x7 x8 x9 x11 x12 (ix2 t l)
      = part (rms (fun k => val_main_v40 (F := Ideal) x0 x1 x2 x3 x5 x6 x7 x8 (ix2 t k)) (fun k => x9 (ix2 0 k)))
          (fun k (f : Fin 2816) => x11 (ix3 0 k ⟨f, by omega⟩))
          (fun k (f : Fin 2816) => x11 (ix3 0 k ⟨2816 + f, by omega⟩)) (fun f l => x12 (ix3 0 f l)) l := by
    pointwise [val_main_v62, val_main_v61, val_main_v60, val_main_call0_v5, val_main_call0_v4, val_main_call0_cst_0,
    val_main_call0_v3, val_main_call0_v2, val_main_call0_cst, val_main_call0_v1, val_main_call0_v0, val_main_v59,
    val_main_v58, val_main_v57, val_main_v56, val_main_v55, normed, part, gated, proj, lgst]

/-- The residual row after the feed-forward unit. -/
theorem half_step (t : Fin 32768) (l : Fin 1024) :
    val_main_v79 (F := Ideal) x0 x1 x2 x3 x5 x6 x7 x8 x9 x10 x11 x12 (ix2 t l)
      = ffn (fun k => val_main_v40 (F := Ideal) x0 x1 x2 x3 x5 x6 x7 x8 (ix2 t k)) (fun k => x9 (ix2 0 k))
          (fun k f => x11 (ix3 0 k f)) (fun f l => x12 (ix3 0 f l)) (fun k => x10 (ix2 0 k)) l := by
    pointwise [val_main_v79, val_main_v78, val_main_v77, val_main_cst_12, val_main_v76, val_main_v75, val_main_v74,
    val_main_v73, val_main_v72, val_main_v71, val_main_v70, val_main_v69, val_main_cst_11, val_main_v68, val_main_v67,
    val_main_cst_10, val_main_v66, val_main_v65, val_main_cst_9, val_main_v64, val_main_v63, inner, ffn, rms, half,
    width, eps]

/-- The gated per-layer embedding. -/
theorem embedded (t : Fin 32768) (l : Fin 1024) :
    val_main_v106 (F := Ideal) x0 x1 x2 x3 x4 x5 x6 x7 x8 x9 x10 x11 x12 x13 x15 x16 (ix2 t l)
      = gate (fun k => val_main_v79 (F := Ideal) x0 x1 x2 x3 x5 x6 x7 x8 x9 x10 x11 x12 (ix2 t k)) (fun k => x13 (ix2 0 k))
          (fun k l => x15 (ix3 0 k l)) (fun k => val_main_v103 (F := Ideal) x4 (ix2 t k)) (fun k l => x16 (ix3 0 k l)) l := by
    pointwise [val_main_v101, val_main_v100, val_main_cst_17, val_main_v99, val_main_v98, val_main_cst_16,
    val_main_v97, val_main_v96, val_main_v95, val_main_v94, val_main_v93, val_main_v92, val_main_v91, val_main_v90,
    val_main_v89, val_main_v88, val_main_v87, val_main_v86, val_main_cst_15, val_main_v85, val_main_v84,
    val_main_cst_14, val_main_v83, val_main_v82, val_main_cst_13, val_main_v81, val_main_v80, val_main_v106,
    val_main_v105, val_main_v104, gate, proj, lgst, rms, width, eps]

/-- The layer's result. -/
theorem result (t : Fin 32768) (l : Fin 1024) :
    val_main_v121 (F := Ideal) x0 x1 x2 x3 x4 x5 x6 x7 x8 x9 x10 x11 x12 x13 x14 x15 x16 (ix2 t l)
      = plus (fun k => val_main_v79 (F := Ideal) x0 x1 x2 x3 x5 x6 x7 x8 x9 x10 x11 x12 (ix2 t k))
          (gate (fun k => val_main_v79 (F := Ideal) x0 x1 x2 x3 x5 x6 x7 x8 x9 x10 x11 x12 (ix2 t k))
            (fun k => x13 (ix2 0 k)) (fun k l => x15 (ix3 0 k l)) (fun k => val_main_v103 (F := Ideal) x4 (ix2 t k))
            (fun k l => x16 (ix3 0 k l))) (fun k => x14 (ix2 0 k)) l := by
    pointwise [val_main_v121, val_main_v120, val_main_v119, val_main_v118, val_main_v117, val_main_v116,
    val_main_v115, val_main_v114, val_main_v113, val_main_cst_20, val_main_v112, val_main_v111, val_main_cst_19,
    val_main_v110, val_main_v109, val_main_cst_18, val_main_v108, val_main_v107, embedded, plus, rms, width, eps]

end Cert.Ffn2Ref

end
-- ==== Proof.Ffn2Claim.lean ====
module

public import proofs.«01_k».proof.Defs
public import proofs.«01_k».proof.Proof.Ffn2Value
public import proofs.«01_k».proof.Proof.Ffn2Ref
public import proofs.«01_k».proof.Proof.Gen.RefFfn2Ideal.Run
public import Idealize.ShloMosaic.Lib.Claim

@[expose] public section

/-! # The mixer's merge, the second feed-forward half-step and the per-layer embedding: kernel and reference leave
the same array -/

set_option maxRecDepth 16384

noncomputable section

namespace Cert.Ffn2Claim

open Idealize.ShloMosaic Idealize.SL.Sem Cert.RefFfn2Ideal Cert.RefFfn2Ideal.Read

variable (x0 : FVec Ideal S32768x1024 .f32) (x1 x2 : FVec Ideal S32768x512 .bf16) (x3 : FVec Ideal S32768x2048 .bf16)
  (x4 : FVec Ideal S1x8x4096x256 .f32) (x5 x6 : FVec Ideal S1x512x1024 .f32) (x7 : FVec Ideal S1x1024x1024 .f32)
  (x8 x9 x10 : FVec Ideal S1x1024 .f32) (x11 : FVec Ideal S1x1024x5632 .f32) (x12 : FVec Ideal S1x2816x1024 .f32)
  (x13 x14 : FVec Ideal S1x1024 .f32) (x15 : FVec Ideal S1x1024x1024 .f32) (x16 : FVec Ideal S1x256x1024 .f32)

/-- The reference's stream after the mixer. -/
theorem mixer : (fun t k => val_main_v40 (F := Ideal) x0 x1 x2 x3 x5 x6 x7 x8 (ix2 t k))
    = Cert.Ffn2Value.X1 x0 x1 x2 x3 x5 x6 x7 x8 := by
  funext t k
  refine (Cert.Ffn2Ref.resid x0 x1 x2 x3 x5 x6 x7 x8 t k).trans ?_
  simp only [Cert.Ffn2Ref.mixed]
  rfl

/-- The reference's stream after the feed-forward unit. -/
theorem stream : (fun t k => val_main_v79 (F := Ideal) x0 x1 x2 x3 x5 x6 x7 x8 x9 x10 x11 x12 (ix2 t k))
    = Cert.Ffn2Value.X2 (Cert.Ffn2Value.X1 x0 x1 x2 x3 x5 x6 x7 x8) x9 x10 x11 x12 := by
  rw [← mixer]
  funext t k
  exact Cert.Ffn2Ref.half_step x0 x1 x2 x3 x5 x6 x7 x8 x9 x10 x11 x12 t k

/-- The per-layer input of a token. -/
theorem token (t : Fin 32768) (k : Fin 256) : val_main_v103 (F := Ideal) x4 (ix2 t k)
    = x4 (ix4 0 ⟨t.val / 4096, by omega⟩ ⟨t.val % 4096, Nat.mod_lt _ (by omega)⟩ k) := by
  pointwise [val_main_v103, val_main_v102]

/-- The reference's array is the layer's row function of its arguments. -/
theorem reference :
    val_main_v121 (F := Ideal) x0 x1 x2 x3 x4 x5 x6 x7 x8 x9 x10 x11 x12 x13 x14 x15 x16
      = Cert.Ffn2Value.G (Cert.Ffn2Value.X2 (Cert.Ffn2Value.X1 x0 x1 x2 x3 x5 x6 x7 x8) x9 x10 x11 x12)
          x4 x13 x14 x15 x16 := by
  rw [← stream]
  funext i
  rw [eq_ix2 i]
  refine (Cert.Ffn2Ref.result x0 x1 x2 x3 x4 x5 x6 x7 x8 x9 x10 x11 x12 x13 x14 x15 x16 (i 0) (i 1)).trans ?_
  exact Cert.Ffn.plus_congr (fun _ => rfl) (Cert.Ffn.gate_congr (fun _ => rfl) (fun _ => rfl) (fun _ _ => rfl)
    (fun k => token x4 (i 0) k) (fun _ _ => rfl)) (fun _ => rfl) (i 1)

set_option maxHeartbeats 1600000 in
theorem algebraic : Cert.algebraic_Ffn2Ideal_RefFfn2Ideal := by
  pair_intro
  · run_from Cert.Ffn2Ideal.Gen.run_main m g
    exact hc.1 17
  · have h := Cert.RefFfn2Ideal.Value.run (F := Ideal) m' g'
    simp only [val_main_v121_eq (F := Ideal), reference, StableHlo.launchContents_devRef] at h
    run_from h
    rw [Cert.Ffn2Value.final m c]
    rfl

end Cert.Ffn2Claim

end
-- ==== Proof.MixSpec.lean ====
module

public import proofs.«01_k».proof.Proof.FfnSpec
public import Idealize.ShloMosaic.Lib.IdealHost

@[expose] public section

/-! # One token row of the mixer's input projection, over the extended reals

The partial rotary embedding of one head (64 coordinates, the first 16 rotated in pairs at distance 8), the
normalisation of the index key, and the way the kernel computes both on lanes that hold two heads. -/

noncomputable section

namespace Cert.Mix

open Idealize.ShloMosaic

/-- The scale of the attention queries. -/
def scaleQ : EReal := Ideal.ofBits .f32 0x3E38AA3B#32
/-- The scale of the index queries. -/
def scaleI : EReal := Ideal.ofBits .f32 0x3E000000#32
/-- The scale of the index heads' weights. -/
def scaleW : EReal := Ideal.ofBits .f32 0x3EB504F3#32

/-- The angle by which pair `f` of a head turns at position `p`: `p · 500000 ^ (-2 f / 16)`. -/
def angle (p f : Nat) : EReal :=
  FloatOps.sitofp (F := Ideal) .f32 (BitVec.ofNat 32 p)
    * Ideal.pow (Ideal.ofBits .f32 0x48F42400#32)
        (Ideal.div (-(Ideal.ofBits .f32 0x40000000#32 * FloatOps.sitofp (F := Ideal) .f32 (BitVec.ofNat 32 f)))
          (Ideal.ofBits .f32 0x41800000#32))

/-- The cosines and the sines of the angles at position `p`. -/
def cosAt (p : Nat) (f : Fin 8) : EReal := Ideal.cos (angle p f)
def sinAt (p : Nat) (f : Fin 8) : EReal := Ideal.sin (angle p f)

/-- One head rotated: coordinates `d` and `d + 8`, for `d < 8`, turn by the angle of cosine `c d` and sine `s d`; the
    coordinates from 16 on stay. -/
def rope (c s : Fin 8 → EReal) (y : Fin 64 → EReal) (d : Fin 64) : EReal :=
  if h : d.val < 8 then y d * c ⟨d, h⟩ - y ⟨d + 8, by omega⟩ * s ⟨d, h⟩
  else if h : d.val < 16 then y d * c ⟨d - 8, by omega⟩ + y ⟨d - 8, by omega⟩ * s ⟨d - 8, by omega⟩
  else y d

/-- The rotated head as three pieces laid end to end: 8 coordinates, 8 more, and 48 that stay. -/
theorem rope_pieces (c s : Fin 8 → EReal) (y : Fin 64 → EReal) (d : Fin 64) :
    (if h : d.val < 8 then y ⟨d.val, by omega⟩ * c ⟨d, h⟩ - y ⟨8 + d, by omega⟩ * s ⟨d, h⟩
      else if h : d.val - 8 < 8 then
        y ⟨8 + (d - 8), by omega⟩ * c ⟨d - 8, h⟩ + y ⟨d - 8, by omega⟩ * s ⟨d - 8, h⟩
      else y ⟨16 + (d - 8 - 8), by omega⟩) = rope c s y d := by
  unfold rope
  by_cases h8 : d.val < 8
  · simp only [h8, ↓reduceDIte, Nat.add_comm 8]
  · have e : (⟨8 + (d.val - 8), by omega⟩ : Fin 64) = d := Fin.ext (by dsimp only; omega)
    by_cases h16 : d.val < 16
    · simp only [h8, h16, show d.val - 8 < 8 by omega, ↓reduceDIte, e]
    · have e' : (⟨16 + (d.val - 8 - 8), by omega⟩ : Fin 64) = d := Fin.ext (by dsimp only; omega)
      simp only [h8, h16, show ¬ d.val - 8 < 8 by omega, ↓reduceDIte, e']

/-- The kernel's rotation on 128 lanes: each lane, the lane 8 above and the lane 8 below, by three tables. -/
def rot (c a b y : Fin 128 → EReal) (j : Fin 128) : EReal :=
  y j * c j + y ⟨(j + 8) % 128, by omega⟩ * a j + y ⟨(j + 120) % 128, by omega⟩ * b j

/-- The factor of the lane itself. -/
def tabC (c : Fin 8 → EReal) (j : Fin 128) : EReal :=
  if j.val % 64 < 16 then c ⟨j % 8, by omega⟩ else 1
/-- The factor of the lane 8 above. -/
def tabA (s : Fin 8 → EReal) (j : Fin 128) : EReal :=
  if j.val % 64 < 8 then -s ⟨j % 8, by omega⟩ else 0
/-- The factor of the lane 8 below. -/
def tabB (s : Fin 8 → EReal) (j : Fin 128) : EReal :=
  if j.val % 64 < 8 then 0 else if j.val % 64 < 16 then s ⟨j % 8, by omega⟩ else 0

theorem tabC_pieces (c : Fin 8 → EReal) (j : Fin 128) :
    (if h : j.val % 64 < 8 then c ⟨j % 64, h⟩ else if h : j.val % 64 - 8 < 8 then c ⟨j % 64 - 8, h⟩ else 1)
      = tabC c j := by
  unfold tabC
  by_cases h8 : j.val % 64 < 8
  · rw [dif_pos h8, if_pos (by omega)]
    exact congrArg c (Fin.ext (by dsimp only; omega))
  · by_cases h16 : j.val % 64 - 8 < 8
    · rw [dif_neg h8, dif_pos h16, if_pos (by omega)]
      exact congrArg c (Fin.ext (by dsimp only; omega))
    · rw [dif_neg h8, dif_neg h16, if_neg (by omega)]

theorem tabA_pieces (s : Fin 8 → EReal) (j : Fin 128) :
    (if h : j.val % 64 < 8 then -s ⟨j % 64, h⟩ else if h : j.val % 64 - 8 < 8 then 0 else 0) = tabA s j := by
  unfold tabA
  by_cases h8 : j.val % 64 < 8
  · rw [dif_pos h8, if_pos h8]
    exact congrArg (fun f => -s f) (Fin.ext (by dsimp only; omega))
  · rw [dif_neg h8, if_neg h8, dite_eq_ite, ite_self]

theorem tabB_pieces (s : Fin 8 → EReal) (j : Fin 128) :
    (if h : j.val % 64 < 8 then 0 else if h : j.val % 64 - 8 < 8 then s ⟨j % 64 - 8, h⟩ else 0) = tabB s j := by
  unfold tabB
  by_cases h8 : j.val % 64 < 8
  · rw [dif_pos h8, if_pos h8]
  · by_cases h16 : j.val % 64 - 8 < 8
    · rw [dif_neg h8, dif_pos h16, if_neg h8, if_pos (by omega)]
      exact congrArg s (Fin.ext (by dsimp only; omega))
    · rw [dif_neg h8, dif_neg h16, if_neg h8, if_neg (by omega)]

/-- With these tables the kernel's lanes are the two heads rotated. -/
theorem rot_tab (c s : Fin 8 → EReal) (y : Fin 128 → EReal) (j : Fin 128) :
    rot (tabC c) (tabA s) (tabB s) y j
      = rope c s (fun d => y ⟨64 * (j / 64) + d, by omega⟩) ⟨j % 64, by omega⟩ := by
  have hj := j.isLt
  have e0 : (⟨64 * (j.val / 64) + j.val % 64, by omega⟩ : Fin 128) = j := Fin.ext (by dsimp only; omega)
  unfold rot rope tabC tabA tabB
  by_cases h8 : j.val % 64 < 8
  · have h16 : j.val % 64 < 16 := by omega
    have e1 : (⟨(j.val + 8) % 128, by omega⟩ : Fin 128) = ⟨64 * (j.val / 64) + (j.val % 64 + 8), by omega⟩ :=
      Fin.ext (by dsimp only; omega)
    have e2 : (⟨j.val % 8, by omega⟩ : Fin 8) = ⟨j.val % 64, h8⟩ := Fin.ext (by dsimp only; omega)
    simp only [h8, h16, ↓reduceIte, ↓reduceDIte, mul_zero, add_zero, mul_neg, sub_eq_add_neg, e0, e1, e2]
  · by_cases h16 : j.val % 64 < 16
    · have e1 : (⟨(j.val + 120) % 128, by omega⟩ : Fin 128) = ⟨64 * (j.val / 64) + (j.val % 64 - 8), by omega⟩ :=
        Fin.ext (by dsimp only; omega)
      have e2 : (⟨j.val % 8, by omega⟩ : Fin 8) = ⟨j.val % 64 - 8, by omega⟩ := Fin.ext (by dsimp only; omega)
      simp only [h8, h16, ↓reduceIte, ↓reduceDIte, mul_zero, add_zero, e0, e1, e2]
    · simp only [h8, h16, ↓reduceIte, ↓reduceDIte, mul_zero, add_zero, mul_one, e0]

/-- The index key: one head normalised by its root mean square and scaled by `g`. -/
def key (y g : Fin 64 → EReal) (d : Fin 64) : EReal :=
  y d * Ideal.rsqrt (Ideal.div (∑ k, y k * y k) (Ideal.ofBits .f32 0x42800000#32) + Cert.Ffn.eps) * g d

/-- Dividing by 64 is multiplying by its reciprocal. -/
theorem div64 (x : EReal) :
    Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num : (64 : ℝ) ≠ 0)]

/-- The columns the kernel's small output is made of: the index key (64), the index weights (8), the decay and the
    write strength of the recurrence (16), and 40 of nothing. -/
def small (c s : Fin 8 → EReal) (y : Fin 6232 → EReal) (g : Fin 64 → EReal) (l : Fin 128) : EReal :=
  if h : l.val < 64 then rope c s (key (fun d => y ⟨4112 + d, by omega⟩) g) ⟨l, h⟩
  else if h : l.val < 72 then y ⟨4112 + l, by omega⟩ * scaleW
  else if h : l.val < 88 then y ⟨1976 + l, by omega⟩
  else 0

/-- The 6232 columns in the order the kernel multiplies by them: the recurrence's and the attention's, the gates, the
    small ones, and 40 columns of zeros. -/
def packed (y : Fin 6232 → EReal) (j : Fin 6272) : EReal :=
  if h : j.val < 2048 then y ⟨j, by omega⟩
  else if h : j.val - 2048 < 2048 then y ⟨2064 + (j - 2048), by omega⟩
  else if h : j.val - 2048 - 2048 < 2048 then y ⟨4184 + (j - 2048 - 2048), by omega⟩
  else if h : j.val - 2048 - 2048 - 2048 < 72 then y ⟨4112 + (j - 2048 - 2048 - 2048), by omega⟩
  else if h : j.val - 2048 - 2048 - 2048 - 72 < 16 then y ⟨2048 + (j - 2048 - 2048 - 2048 - 72), by omega⟩
  else 0

/-- A slice of 512 of the projected columns as eight heads, each rotated. -/
def heads (c s : Fin 8 → EReal) (y : Fin 512 → EReal) (l : Fin 512) : EReal :=
  rope c s (fun d => y ⟨l / 64 * 64 + d, by omega⟩) ⟨l % 64, by omega⟩

end Cert.Mix

end
-- ==== Proof.MixKernel.lean ====
module

public import proofs.«01_k».proof.Proof.MixSpec
public import proofs.«01_k».proof.Proof.Gen.MixIdeal.Skeleton

@[expose] public section

/-! # The mixer's input projection: what the kernel body stores, row by row -/

set_option maxRecDepth 16384

noncomputable section

namespace Cert.MixKernel

open Cert.Ffn Cert.Mix Cert.MixIdeal Cert.MixIdeal.Gen Idealize.ShloMosaic

/-- The normalised row the body multiplies by the input matrix. -/
theorem normed (x : FVec Ideal S512x1024 .f32) (g : FVec Ideal S1x1024 .f32) (r : Fin 512) (k : Fin 1024) :
    k0_pay2 (F := Ideal) x g (ix2 r k) = rms (fun k => x (ix2 r k)) (fun k => g (ix2 0 k)) k := by
  pointwise [k0_pay2, rms, width, eps]

theorem qkva (x : FVec Ideal S512x1024 .f32) (g : FVec Ideal S1x1024 .f32) (w : FVec Ideal S1024x1536 .bf16)
    (r : Fin 512) (l : Fin 1536) :
    k0_pay6 (F := Ideal) x g w (ix2 r l)
      = proj (rms (fun k => x (ix2 r k)) (fun k => g (ix2 0 k))) (fun k l => w (ix2 k l)) l := by
  pointwise [k0_pay6, normed, proj]

theorem z (x : FVec Ideal S512x1024 .f32) (g : FVec Ideal S1x1024 .f32) (w : FVec Ideal S1024x512 .bf16)
    (r : Fin 512) (l : Fin 512) :
    k0_pay7 (F := Ideal) x g w (ix2 r l)
      = proj (rms (fun k => x (ix2 r k)) (fun k => g (ix2 0 k))) (fun k l => w (ix2 k l)) l := by
  pointwise [k0_pay7, normed, proj]

theorem vb (u : FVec Ideal S512x1024 .bf16) (w : FVec Ideal S1024x512 .bf16) (r : Fin 512) (l : Fin 512) :
    k0_pay14 (F := Ideal) u w (ix2 r l) = proj (fun k => u (ix2 r k)) (fun k l => w (ix2 k l)) l := by
  pointwise [k0_pay14, proj]

theorem g (u : FVec Ideal S512x1024 .bf16) (w : FVec Ideal S1024x2048 .bf16) (r : Fin 512) (l : Fin 2048) :
    k0_pay16 (F := Ideal) u w (ix2 r l) = proj (fun k => u (ix2 r k)) (fun k l => w (ix2 k l)) l := by
  pointwise [k0_pay16, proj]

/-- Lane `l` of 512, in the block of 128 lanes it lies in, rotated there by the tables. -/
def blocks (c a b : Fin 128 → EReal) (y : Fin 512 → EReal) (l : Fin 512) : EReal :=
  rot c a b (fun j => y ⟨128 * (l / 128) + j, by omega⟩) ⟨l % 128, by omega⟩

/-- The four blocks of 128 lanes, one beside the other. -/
theorem blocks_ladder (c a b : Fin 128 → EReal) (y : Fin 512 → EReal) (l : Fin 512) :
    (if h : l.val < 128 then
        y l * c ⟨l.val, h⟩ + y ⟨(l.val + 128 - 120) % 128, by omega⟩ * a ⟨l.val, h⟩
          + y ⟨(l.val + 128 - 8) % 128, by omega⟩ * b ⟨l.val, h⟩
      else if h : l.val - 128 < 128 then
        y ⟨128 + (l.val - 128), by omega⟩ * c ⟨l.val - 128, h⟩
          + y ⟨128 + (l.val - 128 + 128 - 120) % 128, by omega⟩ * a ⟨l.val - 128, h⟩
          + y ⟨128 + (l.val - 128 + 128 - 8) % 128, by omega⟩ * b ⟨l.val - 128, h⟩
      else if h : l.val - 128 - 128 < 128 then
        y ⟨256 + (l.val - 128 - 128), by omega⟩ * c ⟨l.val - 128 - 128, h⟩
          + y ⟨256 + (l.val - 128 - 128 + 128 - 120) % 128, by omega⟩ * a ⟨l.val - 128 - 128, h⟩
          + y ⟨256 + (l.val - 128 - 128 + 128 - 8) % 128, by omega⟩ * b ⟨l.val - 128 - 128, h⟩
      else
        y ⟨384 + (l.val - 128 - 128 - 128), by omega⟩ * c ⟨l.val - 128 - 128 - 128, by omega⟩
          + y ⟨384 + (l.val - 128 - 128 - 128 + 128 - 120) % 128, by omega⟩ * a ⟨l.val - 128 - 128 - 128, by omega⟩
          + y ⟨384 + (l.val - 128 - 128 - 128 + 128 - 8) % 128, by omega⟩ * b ⟨l.val - 128 - 128 - 128, by omega⟩)
      = blocks c a b y l := by
  have hl := l.isLt
  unfold blocks rot
  split
  all_goals (try split)
  all_goals (try split)
  all_goals
    refine congrArg₂ (· + ·) (congrArg₂ (· + ·) (congrArg₂ (· * ·) ?_ ?_) (congrArg₂ (· * ·) ?_ ?_))
      (congrArg₂ (· * ·) ?_ ?_) <;> refine congrArg _ (Fin.ext ?_) <;> dsimp only <;> omega

/-- A choice between lanes below 64 and the others, as the body's comparison makes it. -/
theorem low (l : Fin 128) (x y : EReal) :
    Scalar.select (IntOp.cmpi .slt (BitVec.ofNat 32 l.val) 64#32) x y = if l.val < 64 then x else y := by
  have h : ∀ l : Fin 128, IntOp.cmpi .slt (BitVec.ofNat 32 l.val) 64#32 = if l.val < 64 then 1#1 else 0#1 := by
    decide +kernel
  rw [h l]
  split <;> rfl

/-- The sum over the masked lanes. -/
theorem masked (f : Fin 128 → EReal) :
    (∑ x : Fin 128, if x.val < 64 then f x else 0) = ∑ k : Fin 64, f ⟨k, by omega⟩ := by
  rw [Fin.sum_univ_two_halves 64 64 rfl]
  have h1 : ∀ k : Fin 64, k.val < 64 := fun k => k.isLt
  have h2 : ∀ k : Fin 64, ¬ 64 + k.val < 64 := fun k => by omega
  simp only [h1, h2, ↓reduceIte, Finset.sum_const_zero, add_zero]

variable (u : FVec Ideal S512x1024 .bf16) (c a b : FVec Ideal S512x128 .f32) (w : FVec Ideal S1024x512 .bf16)

theorem qb (r : Fin 512) (l : Fin 512) :
    k0_pay9 (F := Ideal) u c a b w (ix2 r l)
      = blocks (fun j => c (ix2 r j)) (fun j => a (ix2 r j)) (fun j => b (ix2 r j))
          (proj (fun k => u (ix2 r k)) (fun k l => w (ix2 k l))) l * scaleQ := by
  rw [← blocks_ladder]
  pointwise [k0_pay9, proj, scaleQ]

theorem kb (r : Fin 512) (l : Fin 512) :
    k0_pay13 (F := Ideal) c a b (k0_pay10 u w) (k0_pay11 u w) (k0_pay12 u c w) 120#32 (ix2 r l)
      = blocks (fun j => c (ix2 r j)) (fun j => a (ix2 r j)) (fun j => b (ix2 r j))
          (proj (fun k => u (ix2 r k)) (fun k l => w (ix2 k l))) l := by
  rw [← blocks_ladder]
  pointwise [k0_pay13, k0_pay12, k0_pay11, k0_pay10, proj, mul_one]

theorem qi (r : Fin 512) (l : Fin 512) :
    k0_pay15 (F := Ideal) u c a b w (ix2 r l)
      = blocks (fun j => c (ix2 r j)) (fun j => a (ix2 r j)) (fun j => b (ix2 r j))
          (proj (fun k => u (ix2 r k)) (fun k l => w (ix2 k l))) l * scaleI := by
  rw [← blocks_ladder]
  pointwise [k0_pay15, proj, scaleI]

theorem small (w : FVec Ideal S1024x128 .bf16) (kg s : FVec Ideal S1x128 .f32) (r : Fin 512) (l : Fin 128) :
    k0_pay1 (F := Ideal) u c a b w kg s (ix2 r l)
      = if l.val < 64 then
          rot (fun j => c (ix2 r j)) (fun j => a (ix2 r j)) (fun j => b (ix2 r j)) (fun j =>
            proj (fun k => u (ix2 r k)) (fun k l => w (ix2 k l)) j
              * Ideal.rsqrt (Ideal.div (∑ k : Fin 64, proj (fun k => u (ix2 r k)) (fun k l => w (ix2 k l)) ⟨k, by omega⟩
                  * proj (fun k => u (ix2 r k)) (fun k l => w (ix2 k l)) ⟨k, by omega⟩)
                    (Ideal.ofBits .f32 0x42800000#32) + eps)
              * kg (ix2 0 j)) l
        else proj (fun k => u (ix2 r k)) (fun k l => w (ix2 k l)) l * s (ix2 0 l) := by
  rw [div64]
  have hm := masked fun x => (∑ k, u (ix2 r k) * w (ix2 k x)) * ∑ k, u (ix2 r k) * w (ix2 k x)
  pointwise [k0_pay1, rot, proj, eps]
  simp only [low, hm]
  simp only [show l.val + 128 - 120 = l.val + 8 by omega, show l.val + 128 - 8 = l.val + 120 by omega]

end Cert.MixKernel

end
-- ==== Proof.MixTables.lean ====
module

public import proofs.«01_k».proof.Proof.MixSpec
public import proofs.«01_k».proof.Proof.Gen.MixIdeal.Value
public import Idealize.ShloMosaic.Lib.StableHlo.ReadAt
public import Idealize.ShloMosaic.Lib.Claim

@[expose] public section

/-! # The mixer's input projection: the arrays the host program prepares for the kernel -/

set_option maxRecDepth 16384

noncomputable section

namespace Cert.MixTables

open Cert.Ffn Cert.Mix Cert.MixIdeal Cert.MixIdeal.Gen Idealize.ShloMosaic Idealize.ShloMosaic.TcCoe Idealize.SL.Sem

variable (m : (ℓ : Loc nD τ sig) → Buf (Elt Ideal) ℓ)

theorem gain (c : Dev nD) (k : Fin 1024) : V m c main_v51 (ix2 0 k) = m ((c : Thread nD τ).loc main_arg1) (ix2 0 k) := by
  unfold V
  after_reads_at

theorem tableC (c : Dev nD) (p : Fin 4096) (j : Fin 128) :
    V m c main_v27 (ix2 p j) = tabC (cosAt p) j := by
  unfold V
  after_reads_at
  after_reads_at
  exact tabC_pieces (cosAt p) j

theorem tableA (c : Dev nD) (p : Fin 4096) (j : Fin 128) :
    V m c main_v30 (ix2 p j) = tabA (sinAt p) j := by
  unfold V
  after_reads_at
  after_reads_at
  exact tabA_pieces (sinAt p) j

theorem tableB (c : Dev nD) (p : Fin 4096) (j : Fin 128) :
    V m c main_v33 (ix2 p j) = tabB (sinAt p) j := by
  unfold V
  after_reads_at
  after_reads_at
  exact tabB_pieces (sinAt p) j

/-- The index key's gain, filled up with zeros. -/
theorem keyGain (c : Dev nD) (j : Fin 128) :
    V m c main_v55 (ix2 0 j)
      = if h : j.val < 64 then m ((c : Thread nD τ).loc main_arg3) (ix2 0 ⟨j, h⟩) else (0 : EReal) := by
  unfold V
  after_reads_simp
  rw [Host.dynamicUpdateSlice_eq_updateSlice _ _ _ _ ![0, 0] ?_ (by decide)]
  · pointwise
  · intro a
    fin_cases a <;> dsimp only [Fin.zero_eta, Fin.mk_one, Fin.isValue, Matrix.cons_val_zero, Matrix.cons_val_one,
      Matrix.cons_val_fin_one] <;> after_reads_simp <;> rfl

theorem scaleW_ne : scaleW ≠ 0 := by
  have h : scaleW = ((11863283 / 33554432 : ℝ) : EReal) := by
    simp [scaleW, Ideal.ofBits, Ideal.ieee, -EReal.coe_mul]; norm_num
  rw [h]
  exact_mod_cast (by norm_num : (11863283 / 33554432 : ℝ) ≠ 0)

/-- The factors of the small columns: the scale on the index weights, one elsewhere. -/
theorem factor (c : Dev nD) (j : Fin 128) :
    V m c main_v40 (ix2 0 j) = if 64 ≤ j.val ∧ j.val < 72 then scaleW else 1 := by
  unfold V
  after_reads_simp
  rw [Host.dynamicUpdateSlice_eq_updateSlice _ _ _ _ ![0, 64] ?_ (by decide)]
  · simp only [StableHlo.TRef.toBuf, StableHlo.TRef.ofBuf, cast_cast, cast_eq]
    pointwise
    by_cases h : 64 ≤ j.val ∧ j.val < 72
    · simp only [h, and_self, ↓reduceDIte, ↓reduceIte]
      exact if_neg scaleW_ne
    · simp only [h, ↓reduceDIte, ↓reduceIte]
      exact Ideal.ofBits_one_f32
  · intro a
    fin_cases a <;> dsimp only [Fin.zero_eta, Fin.mk_one, Fin.isValue, Matrix.cons_val_zero, Matrix.cons_val_one,
      Matrix.cons_val_fin_one] <;> after_reads_simp <;> rfl

/-- The columns of the input matrix, in the order the kernel takes them. -/
theorem weight (c : Dev nD) (k : Fin 1024) (j : Fin 6272) :
    V m c main_v49 (ix2 k j) = packed (fun l => m ((c : Thread nD τ).loc main_arg2) (ix3 0 k l)) j := by
  unfold V
  after_reads_at
  after_reads_at
  rfl

end Cert.MixTables

end
-- ==== Proof.MixValue.lean ====
module

public import proofs.«01_k».proof.Proof.MixKernel
public import proofs.«01_k».proof.Proof.MixTables
public import proofs.«01_k».proof.Proof.Gen.MixIdeal.Value
public import Idealize.ShloMosaic.Lib.Pipeline.ValueKit

@[expose] public section

/-! # The mixer's input projection: the arrays the kernel leaves -/

set_option maxRecDepth 16384

noncomputable section

namespace Cert.MixValue

open Cert.Ffn Cert.Mix Cert.MixIdeal Cert.MixIdeal.Gen Idealize.ShloMosaic Idealize.ShloMosaic.TcCoe Idealize.SL.Sem
open Idealize.ShloMosaic.Pipeline (Dat)

/-- The column of the weight that stands at place `j` of the packed one. -/
theorem packed_eq (y : Fin 6232 → EReal) (j : Fin 6272) (l : Fin 6232)
    (h : (j.val < 2048 ∧ l.val = j) ∨ (2048 ≤ j.val ∧ j.val < 4096 ∧ l.val = j + 16)
      ∨ (4096 ≤ j.val ∧ j.val < 6144 ∧ l.val = j + 88) ∨ (6144 ≤ j.val ∧ j.val < 6216 ∧ l.val + 2032 = j)
      ∨ (6216 ≤ j.val ∧ j.val < 6232 ∧ l.val + 4168 = j)) : packed y j = y l := by
  unfold packed
  split_ifs <;> first | omega | exact congrArg y (Fin.ext (by dsimp only; omega))

theorem packed_zero (y : Fin 6232 → EReal) (j : Fin 6272) (h : 6232 ≤ j.val) : packed y j = 0 := by
  unfold packed
  split_ifs <;> first | omega | rfl

/-- On tables of a position, the four blocks of 128 lanes are the eight heads rotated. -/
theorem blocks_heads (c s : Fin 8 → EReal) (y : Fin 512 → EReal) (l : Fin 512) :
    MixKernel.blocks (tabC c) (tabA s) (tabB s) y l = heads c s y l := by
  have hl := l.isLt
  unfold MixKernel.blocks
  rw [rot_tab]
  unfold heads
  have e : (⟨l.val % 128 % 64, by omega⟩ : Fin 64) = ⟨l.val % 64, by omega⟩ := Fin.ext (by dsimp only; omega)
  dsimp only
  rw [e]
  congr 1
  funext d
  exact congrArg y (Fin.ext (by dsimp only; omega))

section rows

variable (x : FVec Ideal S32768x1024 .f32) (g : FVec Ideal S1x1024 .f32) (w : FVec Ideal S1x1024x6232 .f32)
  (k : FVec Ideal S1x64 .f32)

/-- The projected row of token `t`: all 6232 columns. -/
def cols (t : Fin 32768) : Fin 6232 → EReal :=
  proj (rms (fun k => x (ix2 t k)) (fun k => g (ix2 0 k))) (fun k l => w (ix3 0 k l))

/-- `n` columns from `o` on, as an array over the tokens. -/
def part (n o : Nat) (h : o + n ≤ 6232) (t : Fin 32768) (l : Fin n) : EReal := cols x g w t ⟨o + l, by omega⟩

/-- Eight heads of 64 columns from `o` on, rotated by the token's position. -/
def turned (o : Nat) (h : o + 512 ≤ 6232) (t : Fin 32768) (l : Fin 512) : EReal :=
  heads (cosAt (t % 4096)) (sinAt (t % 4096)) (part x g w 512 o h t) l

def Gqkva : FVec Ideal S32768x1536 .bf16 := fun i => part x g w 1536 0 (by omega) (i 0) (i 1)
def Gz : FVec Ideal S32768x512 .bf16 := fun i => part x g w 512 1536 (by omega) (i 0) (i 1)
def Gqb : FVec Ideal S32768x512 .bf16 := fun i => turned x g w 2064 (by omega) (i 0) (i 1) * scaleQ
def Gkb : FVec Ideal S32768x512 .bf16 := fun i => turned x g w 2576 (by omega) (i 0) (i 1)
def Gvb : FVec Ideal S32768x512 .bf16 := fun i => part x g w 512 3088 (by omega) (i 0) (i 1)
def Gqi : FVec Ideal S32768x512 .bf16 := fun i => turned x g w 3600 (by omega) (i 0) (i 1) * scaleI
def Ggate : FVec Ideal S32768x2048 .bf16 := fun i => part x g w 2048 4184 (by omega) (i 0) (i 1)
def Gsmall : FVec Ideal S32768x128 .f32 := fun i =>
  small (cosAt ((i 0).val % 4096)) (sinAt ((i 0).val % 4096)) (cols x g w (i 0)) (fun d => k (ix2 0 d)) (i 1)

end rows

variable (m : (ℓ : Loc nD τ sig) → Buf (Elt Ideal) ℓ)

/-- The arguments of the call. -/
abbrev ax (c : Dev nD) : FVec Ideal S32768x1024 .f32 := m ((c : Thread nD τ).loc main_arg0)
abbrev ag (c : Dev nD) : FVec Ideal S1x1024 .f32 := m ((c : Thread nD τ).loc main_arg1)
abbrev aw (c : Dev nD) : FVec Ideal S1x1024x6232 .f32 := m ((c : Thread nD τ).loc main_arg2)
abbrev ak (c : Dev nD) : FVec Ideal S1x64 .f32 := m ((c : Thread nD τ).loc main_arg3)

/-- Which block of each array a grid point reads and writes. -/
theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![t.val % 8, 0]
    ∧ win0_6.index t = ![0, 0] ∧ win0_7.index t = ![0, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] :=
  (by decide +kernel : ∀ t : Fin grid0.N, _)

/-- The token a grid point's row `r` is. -/
def tok (t : Fin cfg0.N) (r : Fin 512) : Fin 32768 :=
  ⟨t.val * 512 + r.val, by have hN : cfg0.N = 64 := by decide +kernel
                           have := t.isLt; have := r.isLt; omega⟩

theorem tok_pos (t : Fin cfg0.N) (r : Fin 512) : (tok t r).val % 4096 = t.val % 8 * 512 + r.val := by
  have := r.isLt; unfold tok; dsimp only; omega

theorem read_x (c : Dev nD) (t : Fin cfg0.N) (r : Fin 512) (k : Fin 1024) :
    iblk m c 0 t (ix2 r k) = ax m c (ix2 (tok t r) k) := by
  blk_point [iblk, V, idx t, tok]

theorem read_g (c : Dev nD) (t : Fin cfg0.N) (k : Fin 1024) : iblk m c 1 t (ix2 0 k) = ag m c (ix2 0 k) := by
  have e : ((cfg0.win 1).blk t).view.emb (ix2 0 k) = ix2 0 k := by blk_ext [idx t]
  exact (congrArg (V m c main_v51) e).trans (MixTables.gain m c k)

theorem read_w (c : Dev nD) (t : Fin cfg0.N) (k : Fin 1024) (j : Fin 6272) :
    iblk m c 2 t (ix2 k j) = packed (fun l => aw m c (ix3 0 k l)) j := by
  have e : ((cfg0.win 2).blk t).view.emb (ix2 k j) = ix2 k j := by blk_ext [idx t]
  exact (congrArg (V m c main_v49) e).trans (MixTables.weight m c k j)

theorem read_c (c : Dev nD) (t : Fin cfg0.N) (r : Fin 512) (j : Fin 128) :
    iblk m c 3 t (ix2 r j) = tabC (cosAt ((tok t r).val % 4096)) j := by
  have hp : t.val % 8 * 512 + r.val < 4096 := by have := r.isLt; omega
  have e : ((cfg0.win 3).blk t).view.emb (ix2 r j) = ix2 ⟨t.val % 8 * 512 + r.val, hp⟩ j := by blk_ext [idx t]
  rw [tok_pos]
  exact (congrArg (V m c main_v27) e).trans (MixTables.tableC m c _ j)

theorem read_a (c : Dev nD) (t : Fin cfg0.N) (r : Fin 512) (j : Fin 128) :
    iblk m c 4 t (ix2 r j) = tabA (sinAt ((tok t r).val % 4096)) j := by
  have hp : t.val % 8 * 512 + r.val < 4096 := by have := r.isLt; omega
  have e : ((cfg0.win 4).blk t).view.emb (ix2 r j) = ix2 ⟨t.val % 8 * 512 + r.val, hp⟩ j := by blk_ext [idx t]
  rw [tok_pos]
  exact (congrArg (V m c main_v30) e).trans (MixTables.tableA m c _ j)

theorem read_b (c : Dev nD) (t : Fin cfg0.N) (r : Fin 512) (j : Fin 128) :
    iblk m c 5 t (ix2 r j) = tabB (sinAt ((tok t r).val % 4096)) j := by
  have hp : t.val % 8 * 512 + r.val < 4096 := by have := r.isLt; omega
  have e : ((cfg0.win 5).blk t).view.emb (ix2 r j) = ix2 ⟨t.val % 8 * 512 + r.val, hp⟩ j := by blk_ext [idx t]
  rw [tok_pos]
  exact (congrArg (V m c main_v33) e).trans (MixTables.tableB m c _ j)

theorem read_k (c : Dev nD) (t : Fin cfg0.N) (j : Fin 128) :
    iblk m c 6 t (ix2 0 j) = if h : j.val < 64 then ak m c (ix2 0 ⟨j, h⟩) else (0 : EReal) := by
  have e : ((cfg0.win 6).blk t).view.emb (ix2 0 j) = ix2 0 j := by blk_ext [idx t]
  exact (congrArg (V m c main_v55) e).trans (MixTables.keyGain m c j)

theorem read_s (c : Dev nD) (t : Fin cfg0.N) (j : Fin 128) :
    iblk m c 7 t (ix2 0 j) = if 64 ≤ j.val ∧ j.val < 72 then scaleW else 1 := by
  have e : ((cfg0.win 7).blk t).view.emb (ix2 0 j) = ix2 0 j := by blk_ext [idx t]
  exact (congrArg (V m c main_v40) e).trans (MixTables.factor m c j)

/-- The normalised row. -/
theorem unit (c : Dev nD) (t : Fin cfg0.N) (r : Fin 512) :
    (fun k => k0_pay17 (iblk m c 0 t) (iblk m c 1 t) (iblk m c 2 t) (iblk m c 3 t) (iblk m c 4 t) (iblk m c 5 t)
        (iblk m c 6 t) (iblk m c 7 t) (ix2 r k))
      = rms (fun k => ax m c (ix2 (tok t r) k)) (fun k => ag m c (ix2 0 k)) := by
  funext k
  simp only [k0_pay17]
  refine (MixKernel.normed _ _ r k).trans ?_
  have h0 : ∀ k, View.ld (iblk m c 0 t) r0_0 (ix2 r k) = ax m c (ix2 (tok t r) k) := fun k => by
    pointwise; exact read_x m c t r k
  have h1 : ∀ k, View.ld (iblk m c 1 t) r0_1 (ix2 0 k) = ag m c (ix2 0 k) := fun k => by
    pointwise; exact read_g m c t k
  simp only [h0, h1]

/-- The three tables' rows. -/
theorem tabs (c : Dev nD) (t : Fin cfg0.N) (r : Fin 512) :
    (fun j => k0_pay18 (iblk m c 0 t) (iblk m c 1 t) (iblk m c 2 t) (iblk m c 3 t) (iblk m c 4 t) (iblk m c 5 t)
        (iblk m c 6 t) (iblk m c 7 t) (ix2 r j)) = tabC (cosAt ((tok t r).val % 4096))
    ∧ (fun j => k0_pay19 (iblk m c 0 t) (iblk m c 1 t) (iblk m c 2 t) (iblk m c 3 t) (iblk m c 4 t) (iblk m c 5 t)
        (iblk m c 6 t) (iblk m c 7 t) (ix2 r j)) = tabA (sinAt ((tok t r).val % 4096))
    ∧ (fun j => k0_pay20 (iblk m c 0 t) (iblk m c 1 t) (iblk m c 2 t) (iblk m c 3 t) (iblk m c 4 t) (iblk m c 5 t)
        (iblk m c 6 t) (iblk m c 7 t) (ix2 r j)) = tabB (sinAt ((tok t r).val % 4096)) := by
  refine ⟨funext fun j => ?_, funext fun j => ?_, funext fun j => ?_⟩
  · pointwise [k0_pay18, k0_pay3]; exact read_c m c t r j
  · pointwise [k0_pay19, k0_pay4]; exact read_a m c t r j
  · pointwise [k0_pay20, k0_pay5]; exact read_b m c t r j

/-- A column of the weight as the kernel loads it is the column of the argument it stands for. -/
theorem column (c : Dev nD) (t : Fin cfg0.N) (r : Fin 512) {n : Nat} (W : Fin 1024 → Fin n → EReal) (l : Fin n)
    (j : Fin 6272) (l' : Fin 6232) (hW : ∀ k, W k l = iblk m c 2 t (ix2 k j))
    (h : ∀ y, packed y j = y l') :
    proj (rms (fun k => ax m c (ix2 (tok t r) k)) (fun k => ag m c (ix2 0 k))) W l
      = cols (ax m c) (ag m c) (aw m c) (tok t r) l' := by
  unfold cols proj
  simp only [hW, read_w, h]

/-- A column of zeros yields zero. -/
theorem zero_column (c : Dev nD) (t : Fin cfg0.N) (u : Fin 1024 → EReal) {n : Nat} (W : Fin 1024 → Fin n → EReal)
    (l : Fin n) (j : Fin 6272) (hW : ∀ k, W k l = iblk m c 2 t (ix2 k j)) (h : 6232 ≤ j.val) : proj u W l = 0 := by
  unfold proj
  simp only [hW, read_w, packed_zero _ j h, mul_zero, Finset.sum_const_zero]

/-- The normalised row as the first two outputs take it. -/
theorem unit' (c : Dev nD) (t : Fin cfg0.N) (r : Fin 512) :
    rms (fun k => iblk m c 0 t (ix2 r k)) (fun k => iblk m c 1 t (ix2 0 k))
      = rms (fun k => ax m c (ix2 (tok t r) k)) (fun k => ag m c (ix2 0 k)) := by
  simp only [read_x, read_g]

/-- The small columns, from the projected lanes `P`. -/
theorem small_row (y : Fin 6232 → EReal) (P : Fin 128 → EReal) (g : Fin 64 → EReal)
    (kg s : Fin 128 → EReal) (p : Nat) (l : Fin 128)
    (h1 : ∀ j : Fin 128, ∀ h : j.val < 72, P j = y ⟨4112 + j, by omega⟩)
    (h2 : ∀ j : Fin 128, 72 ≤ j.val → ∀ h : j.val < 88, P j = y ⟨1976 + j, by omega⟩)
    (h3 : ∀ j : Fin 128, 88 ≤ j.val → P j = 0) (hk : ∀ j : Fin 128, kg j = if h : j.val < 64 then g ⟨j, h⟩ else 0)
    (hs : ∀ j : Fin 128, s j = if 64 ≤ j.val ∧ j.val < 72 then scaleW else 1) :
    (if l.val < 64 then
        rot (tabC (cosAt p)) (tabA (sinAt p)) (tabB (sinAt p)) (fun j => P j
          * Ideal.rsqrt (Ideal.div (∑ k : Fin 64, P ⟨k, by omega⟩ * P ⟨k, by omega⟩) (Ideal.ofBits .f32 0x42800000#32)
              + eps) * kg j) l
      else P l * s l) = small (cosAt p) (sinAt p) y g l := by
  unfold small
  by_cases h : l.val < 64
  · simp only [h, ↓reduceIte, ↓reduceDIte]
    rw [rot_tab]
    have e : (⟨l.val % 64, by omega⟩ : Fin 64) = ⟨l, h⟩ := Fin.ext (by dsimp only; omega)
    rw [e]
    congr 1
    funext d
    have ed : (⟨64 * (l.val / 64) + d.val, by omega⟩ : Fin 128) = ⟨d, by omega⟩ := Fin.ext (by dsimp only; omega)
    have hd : ∀ d : Fin 64, P ⟨d, by omega⟩ = y ⟨4112 + d, by omega⟩ := fun d => h1 ⟨d, by omega⟩ (by dsimp only; omega)
    have hg : kg ⟨d, by omega⟩ = g d := (hk _).trans (dif_pos d.isLt)
    simp only [ed, hd, hg, key]
  · simp only [h, ↓reduceIte, ↓reduceDIte]
    by_cases h72 : l.val < 72
    · rw [dif_pos h72, h1 l h72, hs, if_pos ⟨by omega, h72⟩]
    · rw [dif_neg h72, hs, if_neg (fun h => h72 h.2), mul_one]
      by_cases h88 : l.val < 88
      · rw [dif_pos h88, h2 l (by omega) h88]
      · rw [dif_neg h88, h3 l (by omega)]

/-- A slice of the weight as the kernel loads it yields the columns it stands for. -/
theorem slice (c : Dev nD) (t : Fin cfg0.N) (r : Fin 512) {n : Nat} (W : Fin 1024 → Fin n → EReal) (b o : Nat)
    (hb : b + n ≤ 6272) (ho : o + n ≤ 6232) (hW : ∀ k (l : Fin n), W k l = iblk m c 2 t (ix2 k ⟨b + l, by omega⟩))
    (h : (b + n ≤ 2048 ∧ o = b) ∨ (2048 ≤ b ∧ b + n ≤ 4096 ∧ o = b + 16) ∨ (4096 ≤ b ∧ b + n ≤ 6144 ∧ o = b + 88)) :
    proj (rms (fun k => ax m c (ix2 (tok t r) k)) (fun k => ag m c (ix2 0 k))) W
      = part (ax m c) (ag m c) (aw m c) n o ho (tok t r) := by
  funext l
  exact column m c t r W l ⟨b + l, by omega⟩ ⟨o + l, by omega⟩ (fun k => hW k l)
    (fun y => packed_eq y _ _ (by have := l.isLt; dsimp only; omega))

theorem point8 (c : Dev nD) (t : Fin cfg0.N) (y : S512x1536.Idx) :
    out0_8 (iblk m c 0 t) (iblk m c 1 t) (iblk m c 2 t) (iblk m c 3 t) (iblk m c 4 t) (iblk m c 5 t)
        (iblk m c 6 t) (iblk m c 7 t) y
      = Gqkva (ax m c) (ag m c) (aw m c) (((cfg0.win 8).blk t).view.emb y) := by
  frame_out
  idx_vars y
  have hj : ((cfg0.win 8).blk t).view.emb (ix2 y0 y1) = ix2 (tok t y0) y1 := by blk_ext [idx t, tok]
  refine (MixKernel.qkva _ _ _ y0 y1).trans (Eq.trans ?_ (congrArg _ hj.symm))
  rw [unit']
  exact congrFun (slice m c t y0 _ 0 0 (by omega) (by omega) (fun k l => by pointwise) (by omega)) y1

theorem final8 (c : Dev nD) : (dats m 0 c).arrAt 8 (cfgs 0).N = Gqkva (ax m c) (ag m c) (aw m c) := by
  refine (dats m 0 c).arrAt_eq_of_covers 8 _ (by decide +kernel) fun t _ y => ?_
  blk_simp
  rw [after0_8]
  exact point8 m c t y

theorem point9 (c : Dev nD) (t : Fin cfg0.N) (y : S512x512.Idx) :
    out0_9 (iblk m c 0 t) (iblk m c 1 t) (iblk m c 2 t) (iblk m c 3 t) (iblk m c 4 t) (iblk m c 5 t)
        (iblk m c 6 t) (iblk m c 7 t) y
      = Gz (ax m c) (ag m c) (aw m c) (((cfg0.win 9).blk t).view.emb y) := by
  frame_out
  idx_vars y
  have hj : ((cfg0.win 9).blk t).view.emb (ix2 y0 y1) = ix2 (tok t y0) y1 := by blk_ext [idx t, tok]
  refine (MixKernel.z _ _ _ y0 y1).trans (Eq.trans ?_ (congrArg _ hj.symm))
  rw [unit']
  exact congrFun (slice m c t y0 _ 1536 1536 (by omega) (by omega) (fun k l => by pointwise) (by omega)) y1

theorem final9 (c : Dev nD) : (dats m 0 c).arrAt 9 (cfgs 0).N = Gz (ax m c) (ag m c) (aw m c) := by
  refine (dats m 0 c).arrAt_eq_of_covers 9 _ (by decide +kernel) fun t _ y => ?_
  blk_simp
  rw [after0_9]
  exact point9 m c t y

theorem point10 (c : Dev nD) (t : Fin cfg0.N) (y : S512x512.Idx) :
    out0_10 (iblk m c 0 t) (iblk m c 1 t) (iblk m c 2 t) (iblk m c 3 t) (iblk m c 4 t) (iblk m c 5 t)
        (iblk m c 6 t) (iblk m c 7 t) y
      = Gqb (ax m c) (ag m c) (aw m c) (((cfg0.win 10).blk t).view.emb y) := by
  frame_out
  idx_vars y
  have hj : ((cfg0.win 10).blk t).view.emb (ix2 y0 y1) = ix2 (tok t y0) y1 := by blk_ext [idx t, tok]
  refine (MixKernel.qb _ _ _ _ _ y0 y1).trans (Eq.trans ?_ (congrArg _ hj.symm))
  obtain ⟨hc, ha, hb⟩ := tabs m c t y0
  rw [hc, ha, hb, unit, blocks_heads]
  exact congrArg (· * scaleQ) (congrFun (congrArg (heads _ _) (slice m c t y0 _ 2048 2064 (by omega)
    (by omega) (fun k l => by pointwise [k0_pay8]) (by omega))) y1)

theorem final10 (c : Dev nD) : (dats m 0 c).arrAt 10 (cfgs 0).N = Gqb (ax m c) (ag m c) (aw m c) := by
  refine (dats m 0 c).arrAt_eq_of_covers 10 _ (by decide +kernel) fun t _ y => ?_
  blk_simp
  rw [after0_10]
  exact point10 m c t y

theorem point11 (c : Dev nD) (t : Fin cfg0.N) (y : S512x512.Idx) :
    out0_11 (iblk m c 0 t) (iblk m c 1 t) (iblk m c 2 t) (iblk m c 3 t) (iblk m c 4 t) (iblk m c 5 t)
        (iblk m c 6 t) (iblk m c 7 t) y
      = Gkb (ax m c) (ag m c) (aw m c) (((cfg0.win 11).blk t).view.emb y) := by
  frame_out
  idx_vars y
  have hj : ((cfg0.win 11).blk t).view.emb (ix2 y0 y1) = ix2 (tok t y0) y1 := by blk_ext [idx t, tok]
  refine (MixKernel.kb _ _ _ _ _ y0 y1).trans (Eq.trans ?_ (congrArg _ hj.symm))
  obtain ⟨hc, ha, hb⟩ := tabs m c t y0
  rw [hc, ha, hb, unit, blocks_heads]
  exact congrFun (congrArg (heads _ _) (slice m c t y0 _ 2560 2576 (by omega)
    (by omega) (fun k l => by pointwise) (by omega))) y1

theorem final11 (c : Dev nD) : (dats m 0 c).arrAt 11 (cfgs 0).N = Gkb (ax m c) (ag m c) (aw m c) := by
  refine (dats m 0 c).arrAt_eq_of_covers 11 _ (by decide +kernel) fun t _ y => ?_
  blk_simp
  rw [after0_11]
  exact point11 m c t y

theorem point12 (c : Dev nD) (t : Fin cfg0.N) (y : S512x512.Idx) :
    out0_12 (iblk m c 0 t) (iblk m c 1 t) (iblk m c 2 t) (iblk m c 3 t) (iblk m c 4 t) (iblk m c 5 t)
        (iblk m c 6 t) (iblk m c 7 t) y
      = Gvb (ax m c) (ag m c) (aw m c) (((cfg0.win 12).blk t).view.emb y) := by
  frame_out
  idx_vars y
  have hj : ((cfg0.win 12).blk t).view.emb (ix2 y0 y1) = ix2 (tok t y0) y1 := by blk_ext [idx t, tok]
  refine (MixKernel.vb _ _ y0 y1).trans (Eq.trans ?_ (congrArg _ hj.symm))
  rw [unit]
  exact congrFun (slice m c t y0 _ 3072 3088 (by omega) (by omega) (fun k l => by pointwise) (by omega)) y1

theorem final12 (c : Dev nD) : (dats m 0 c).arrAt 12 (cfgs 0).N = Gvb (ax m c) (ag m c) (aw m c) := by
  refine (dats m 0 c).arrAt_eq_of_covers 12 _ (by decide +kernel) fun t _ y => ?_
  blk_simp
  rw [after0_12]
  exact point12 m c t y

theorem point13 (c : Dev nD) (t : Fin cfg0.N) (y : S512x512.Idx) :
    out0_13 (iblk m c 0 t) (iblk m c 1 t) (iblk m c 2 t) (iblk m c 3 t) (iblk m c 4 t) (iblk m c 5 t)
        (iblk m c 6 t) (iblk m c 7 t) y
      = Gqi (ax m c) (ag m c) (aw m c) (((cfg0.win 13).blk t).view.emb y) := by
  frame_out
  idx_vars y
  have hj : ((cfg0.win 13).blk t).view.emb (ix2 y0 y1) = ix2 (tok t y0) y1 := by blk_ext [idx t, tok]
  refine (MixKernel.qi _ _ _ _ _ y0 y1).trans (Eq.trans ?_ (congrArg _ hj.symm))
  obtain ⟨hc, ha, hb⟩ := tabs m c t y0
  rw [hc, ha, hb, unit, blocks_heads]
  exact congrArg (· * scaleI) (congrFun (congrArg (heads _ _) (slice m c t y0 _ 3584 3600 (by omega)
    (by omega) (fun k l => by pointwise) (by omega))) y1)

theorem final13 (c : Dev nD) : (dats m 0 c).arrAt 13 (cfgs 0).N = Gqi (ax m c) (ag m c) (aw m c) := by
  refine (dats m 0 c).arrAt_eq_of_covers 13 _ (by decide +kernel) fun t _ y => ?_
  blk_simp
  rw [after0_13]
  exact point13 m c t y

theorem point14 (c : Dev nD) (t : Fin cfg0.N) (y : S512x2048.Idx) :
    out0_14 (iblk m c 0 t) (iblk m c 1 t) (iblk m c 2 t) (iblk m c 3 t) (iblk m c 4 t) (iblk m c 5 t)
        (iblk m c 6 t) (iblk m c 7 t) y
      = Ggate (ax m c) (ag m c) (aw m c) (((cfg0.win 14).blk t).view.emb y) := by
  frame_out
  idx_vars y
  have hj : ((cfg0.win 14).blk t).view.emb (ix2 y0 y1) = ix2 (tok t y0) y1 := by blk_ext [idx t, tok]
  refine (MixKernel.g _ _ y0 y1).trans (Eq.trans ?_ (congrArg _ hj.symm))
  rw [unit]
  exact congrFun (slice m c t y0 _ 4096 4184 (by omega) (by omega) (fun k l => by pointwise) (by omega)) y1

theorem final14 (c : Dev nD) : (dats m 0 c).arrAt 14 (cfgs 0).N = Ggate (ax m c) (ag m c) (aw m c) := by
  refine (dats m 0 c).arrAt_eq_of_covers 14 _ (by decide +kernel) fun t _ y => ?_
  blk_simp
  rw [after0_14]
  exact point14 m c t y

theorem point15 (c : Dev nD) (t : Fin cfg0.N) (y : S512x128.Idx) :
    out0_15 (iblk m c 0 t) (iblk m c 1 t) (iblk m c 2 t) (iblk m c 3 t) (iblk m c 4 t) (iblk m c 5 t)
        (iblk m c 6 t) (iblk m c 7 t) y
      = Gsmall (ax m c) (ag m c) (aw m c) (ak m c) (((cfg0.win 15).blk t).view.emb y) := by
  frame_out
  idx_vars y
  have hj : ((cfg0.win 15).blk t).view.emb (ix2 y0 y1) = ix2 (tok t y0) y1 := by blk_ext [idx t, tok]
  refine (MixKernel.small _ _ _ _ _ _ _ y0 y1).trans (Eq.trans ?_ (congrArg _ hj.symm))
  obtain ⟨hc, ha, hb⟩ := tabs m c t y0
  rw [hc, ha, hb, unit]
  refine small_row (cols (ax m c) (ag m c) (aw m c) (tok t y0)) (proj _ fun k l => View.ld (iblk m c 2 t) r0_13 (ix2 k l))
    (fun d => ak m c (ix2 0 d)) (fun j => iblk m c 6 t (ix2 0 j)) (fun j => iblk m c 7 t (ix2 0 j)) _ y1
    (fun j h => ?_) (fun j h h' => ?_) (fun j h => ?_) (read_k m c t) (read_s m c t)
  · exact column m c t y0 _ j ⟨6144 + j, by omega⟩ _ (fun k => by pointwise) (fun y => packed_eq y _ _ (by dsimp only; omega))
  · exact column m c t y0 _ j ⟨6144 + j, by omega⟩ _ (fun k => by pointwise) (fun y => packed_eq y _ _ (by dsimp only; omega))
  · exact zero_column m c t _ _ j ⟨6144 + j, by omega⟩ (fun k => by pointwise) (by dsimp only; omega)

theorem final15 (c : Dev nD) : (dats m 0 c).arrAt 15 (cfgs 0).N = Gsmall (ax m c) (ag m c) (aw m c) (ak m c) := by
  refine (dats m 0 c).arrAt_eq_of_covers 15 _ (by decide +kernel) fun t _ y => ?_
  blk_simp
  rw [after0_15]
  exact point15 m c t y

end Cert.MixValue

end
-- ==== Proof.MixRef.lean ====
module

public import proofs.«01_k».proof.Proof.MixSpec
public import proofs.«01_k».proof.Proof.Gen.RefMixIdeal.Read

@[expose] public section

/-! # The mixer's input projection: the reference, row by row -/

set_option maxRecDepth 16384

noncomputable section

namespace Cert.MixRef

open Cert.Ffn Cert.Mix Cert.RefMixIdeal Cert.RefMixIdeal.Read Idealize.ShloMosaic

variable (x : FVec Ideal S32768x1024 .f32) (g : FVec Ideal S1x1024 .f32) (w : FVec Ideal S1x1024x6232 .f32)
  (k : FVec Ideal S1x64 .f32)

/-- The reference's tables. -/
theorem cosines (p : Fin 4096) (f : Fin 8) : val_main_v16 (F := Ideal) (ix2 p f) = cosAt p f := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2, cosAt, angle]

theorem sines (p : Fin 4096) (f : Fin 8) : val_main_v17 (F := Ideal) (ix2 p f) = sinAt p f := by
  pointwise [val_main_v17, val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2, sinAt, angle]

/-- The projected row of token `t`: all 6232 columns. -/
def cols (t : Fin 32768) : Fin 6232 → EReal :=
  proj (rms (fun k => x (ix2 t k)) (fun k => g (ix2 0 k))) (fun k l => w (ix3 0 k l))

theorem normed (t : Fin 32768) (j : Fin 1024) :
    val_main_v31 (F := Ideal) x g (ix2 t j) = rms (fun k => x (ix2 t k)) (fun k => g (ix2 0 k)) j := by
  pointwise [val_main_v31, val_main_v30, val_main_v29, val_main_v28, val_main_v27, val_main_v26, val_main_v25,
    val_main_v24, val_main_v23, val_main_v22, val_main_v21, val_main_v20, val_main_v19, val_main_v18,
    val_main_cst_3, val_main_cst_4, val_main_cst_5, rms, width, eps]

theorem row (t : Fin 32768) (l : Fin 6232) : val_main_v33 (F := Ideal) x g w (ix2 t l) = cols x g w t l := by
  pointwise [val_main_v33, val_main_v32, normed, cols, proj]

theorem qkva (t : Fin 32768) (l : Fin 1536) :
    val_main_v34 (F := Ideal) x g w (ix2 t l) = cols x g w t ⟨l, by omega⟩ := by
  pointwise [val_main_v34, row]

theorem z (t : Fin 32768) (l : Fin 512) :
    val_main_v35 (F := Ideal) x g w (ix2 t l) = cols x g w t ⟨1536 + l, by omega⟩ := by
  pointwise [val_main_v35, row]

theorem vb (t : Fin 32768) (l : Fin 512) :
    val_main_v135 (F := Ideal) x g w (ix2 t l) = cols x g w t ⟨3088 + l, by omega⟩ := by
  pointwise [val_main_v135, val_main_v40, row]

theorem gate (t : Fin 32768) (l : Fin 2048) :
    val_main_v139 (F := Ideal) x g w (ix2 t l) = cols x g w t ⟨4184 + l, by omega⟩ := by
  pointwise [val_main_v139, val_main_v44, row]

theorem qb (t : Fin 32768) (l : Fin 512) :
    val_main_v133 (F := Ideal) x g w (ix2 t l)
      = heads (cosAt (t % 4096)) (sinAt (t % 4096)) (fun l => cols x g w t ⟨2064 + l, by omega⟩) l * scaleQ := by
  rw [heads, ← rope_pieces]
  pointwise [val_main_v133, val_main_v132, val_main_v131, val_main_cst_9, val_main_v62, val_main_v61, val_main_v60,
    val_main_v59, val_main_v58, val_main_v57, val_main_v56, val_main_v55, val_main_v54, val_main_v53,
    val_main_v52, val_main_v51, val_main_v50, val_main_v49, val_main_v48, val_main_v47, val_main_v46,
    val_main_v45, val_main_v38, row, cosines, sines, Nat.div_add_mod', scaleQ]

theorem kb (t : Fin 32768) (l : Fin 512) :
    val_main_v134 (F := Ideal) x g w (ix2 t l)
      = heads (cosAt (t % 4096)) (sinAt (t % 4096)) (fun l => cols x g w t ⟨2576 + l, by omega⟩) l := by
  rw [heads, ← rope_pieces]
  pointwise [val_main_v134, val_main_v80, val_main_v79, val_main_v78, val_main_v77, val_main_v76, val_main_v75,
    val_main_v74, val_main_v73, val_main_v72, val_main_v71, val_main_v70, val_main_v69, val_main_v68,
    val_main_v67, val_main_v66, val_main_v65, val_main_v64, val_main_v63, val_main_v39, row, cosines, sines, Nat.div_add_mod']

theorem qi (t : Fin 32768) (l : Fin 512) :
    val_main_v138 (F := Ideal) x g w (ix2 t l)
      = heads (cosAt (t % 4096)) (sinAt (t % 4096)) (fun l => cols x g w t ⟨3600 + l, by omega⟩) l * scaleI := by
  rw [heads, ← rope_pieces]
  pointwise [val_main_v138, val_main_v137, val_main_v136, val_main_cst_10, val_main_v98, val_main_v97, val_main_v96,
    val_main_v95, val_main_v94, val_main_v93, val_main_v92, val_main_v91, val_main_v90, val_main_v89,
    val_main_v88, val_main_v87, val_main_v86, val_main_v85, val_main_v84, val_main_v83, val_main_v82,
    val_main_v81, val_main_v41, row, cosines, sines, Nat.div_add_mod', scaleI]

theorem small (t : Fin 32768) (l : Fin 128) :
    val_main_v143 (F := Ideal) x g w k (ix2 t l)
      = small (cosAt (t % 4096)) (sinAt (t % 4096)) (cols x g w t) (fun d => k (ix2 0 d)) l := by
  pointwise [val_main_v143, val_main_v142, val_main_v141, val_main_v140, val_main_cst_11, val_main_cst_12, val_main_v130,
    val_main_v129, val_main_v128, val_main_v127, val_main_v126, val_main_v125, val_main_v124, val_main_v123,
    val_main_v122, val_main_v121, val_main_v120, val_main_v119, val_main_v118, val_main_v117, val_main_v116,
    val_main_v115, val_main_v114, val_main_v113, val_main_v112, val_main_v111, val_main_v110, val_main_v109,
    val_main_v108, val_main_v107, val_main_v106, val_main_v105, val_main_v104, val_main_v103, val_main_v102,
    val_main_v101, val_main_v100, val_main_v99, val_main_cst_6, val_main_cst_7, val_main_cst_8, val_main_v36,
    val_main_v37, val_main_v42, val_main_v43, row, cosines, sines]
  unfold Cert.Mix.small
  by_cases h : l.val < 64
  · simp only [h, ↓reduceDIte]
    exact rope_pieces (cosAt (t % 4096)) (sinAt (t % 4096)) (key (fun d => cols x g w t ⟨4112 + d, by omega⟩) fun d => k (ix2 0 d))
      ⟨l, h⟩
  · simp only [h, ↓reduceDIte]
    by_cases h1 : l.val < 72
    · simp only [h1, show l.val - 64 < 8 by omega, ↓reduceDIte, scaleW]
      congr! 2
      simp only [Fin.mk.injEq]; omega
    · simp only [h1, show ¬ l.val - 64 < 8 by omega, ↓reduceDIte]
      by_cases h2 : l.val < 88
      · simp only [h2, ↓reduceDIte]
        by_cases h3 : l.val - 64 - 8 < 8
        · simp only [h3, ↓reduceDIte]
          congr! 1
          simp only [Fin.mk.injEq]; omega
        · simp only [h3, show l.val - 64 - 8 - 8 < 8 by omega, ↓reduceDIte]
          congr! 1
          simp only [Fin.mk.injEq]; omega
      · simp only [h2, show ¬ l.val - 64 - 8 < 8 by omega, show ¬ l.val - 64 - 8 - 8 < 8 by omega, ↓reduceDIte]

end Cert.MixRef

end
-- ==== Proof.MixClaim.lean ====
module

public import proofs.«01_k».proof.Defs
public import proofs.«01_k».proof.Proof.MixValue
public import proofs.«01_k».proof.Proof.MixRef
public import proofs.«01_k».proof.Proof.Gen.RefMixIdeal.Run
public import Idealize.ShloMosaic.Lib.Claim

@[expose] public section

/-! # The mixer's input projection: kernel and reference leave the same eight arrays -/

set_option maxRecDepth 16384

noncomputable section

namespace Cert.MixClaim

open Idealize.ShloMosaic Idealize.SL.Sem Cert.RefMixIdeal Cert.RefMixIdeal.Read Cert.MixValue

variable (x : FVec Ideal S32768x1024 .f32) (g : FVec Ideal S1x1024 .f32) (w : FVec Ideal S1x1024x6232 .f32)
  (k : FVec Ideal S1x64 .f32)

theorem ref_qkva : val_main_v34 (F := Ideal) x g w = Gqkva x g w := by
  funext i
  rw [eq_ix2 i]
  refine (Cert.MixRef.qkva x g w (i 0) (i 1)).trans (congrArg (Cert.MixRef.cols x g w (i 0)) (Fin.ext ?_))
  exact (Nat.zero_add _).symm

theorem ref_z : val_main_v35 (F := Ideal) x g w = Gz x g w := by
  funext i
  rw [eq_ix2 i]
  exact Cert.MixRef.z x g w (i 0) (i 1)

theorem ref_qb : val_main_v133 (F := Ideal) x g w = Gqb x g w := by
  funext i
  rw [eq_ix2 i]
  exact Cert.MixRef.qb x g w (i 0) (i 1)

theorem ref_kb : val_main_v134 (F := Ideal) x g w = Gkb x g w := by
  funext i
  rw [eq_ix2 i]
  exact Cert.MixRef.kb x g w (i 0) (i 1)

theorem ref_vb : val_main_v135 (F := Ideal) x g w = Gvb x g w := by
  funext i
  rw [eq_ix2 i]
  exact Cert.MixRef.vb x g w (i 0) (i 1)

theorem ref_qi : val_main_v138 (F := Ideal) x g w = Gqi x g w := by
  funext i
  rw [eq_ix2 i]
  exact Cert.MixRef.qi x g w (i 0) (i 1)

theorem ref_gate : val_main_v139 (F := Ideal) x g w = Ggate x g w := by
  funext i
  rw [eq_ix2 i]
  exact Cert.MixRef.gate x g w (i 0) (i 1)

theorem ref_small : val_main_v143 (F := Ideal) x g w k = Gsmall x g w k := by
  funext i
  rw [eq_ix2 i]
  exact Cert.MixRef.small x g w k (i 0) (i 1)

set_option maxHeartbeats 1600000 in
theorem algebraic : Cert.algebraic_MixIdeal_RefMixIdeal := by
  pair_intro
  · run_from Cert.MixIdeal.Gen.run_main m g
    exacts [Cert.MixIdeal.Gen.V_main_arg1 m c, Cert.MixIdeal.Gen.V_main_arg2 m c, Cert.MixIdeal.Gen.V_main_arg3 m c]
  · have h := Cert.RefMixIdeal.Value.run (F := Ideal) m' g'
    simp only [val_main_v34_eq (F := Ideal), val_main_v35_eq (F := Ideal), val_main_v133_eq (F := Ideal),
      val_main_v134_eq (F := Ideal), val_main_v135_eq (F := Ideal), val_main_v138_eq (F := Ideal),
      val_main_v139_eq (F := Ideal), val_main_v143_eq (F := Ideal),
      ref_qkva, ref_z, ref_qb, ref_kb, ref_vb, ref_qi, ref_gate, ref_small, StableHlo.launchContents_devRef] at h
    run_from h
    all_goals clear h
    all_goals first
      | rw [final8 m c] | rw [final9 m c] | rw [final10 m c] | rw [final11 m c] | rw [final12 m c] | rw [final13 m c]
      | rw [final14 m c] | rw [final15 m c]

end Cert.MixClaim

end
-- ==== Proof.lean ====
module

public import proofs.«01_k».proof.Defs
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.RefFfn1Ideal
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.RefFfn2Ideal
public import proofs.«01_k».proof.Proof.Gen.Gdn
public import proofs.«01_k».proof.Proof.Gen.Gdn.Skeleton
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.Gen.RefGdnIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.RefMixIdeal
public import proofs.«01_k».proof.Proof.RefFrames
public import proofs.«01_k».proof.Proof.Ffn1Claim
public import proofs.«01_k».proof.Proof.Ffn2Claim
public import proofs.«01_k».proof.Proof.MixClaim
public import Idealize.ShloMosaic.Adequacy
public import Idealize.ShloMosaic.Init

@[expose] public section

noncomputable section

namespace Cert.Proof

open Idealize.ShloMosaic Idealize.SL.Sem

theorem claim : Cert.Claim :=
  ⟨Cert.Ffn1.Gen.facts,
   Cert.Ffn1Ideal.Gen.facts,
   Cert.RefFfn1Ideal.Gen.facts,
   Cert.Ffn2.Gen.facts,
   Cert.Ffn2Ideal.Gen.facts,
   Cert.RefFfn2Ideal.Gen.facts,
   Cert.Mix.Gen.facts,
   Cert.MixIdeal.Gen.facts,
   Cert.RefMixIdeal.Gen.facts,
   Cert.Gdn.Gen.facts,
   Cert.GdnIdeal.Gen.facts,
   Cert.RefGdnIdeal.Gen.facts,
   fun m g _ => Cert.Ffn1.Gen.frame m g,
   fun m g _ => Cert.Ffn1Ideal.Gen.frame m g,
   Cert.RefFrames.ffn1,
   fun m g _ => Cert.Ffn2.Gen.frame m g,
   fun m g _ => Cert.Ffn2Ideal.Gen.frame m g,
   Cert.RefFrames.ffn2,
   fun m g _ => Cert.Mix.Gen.frame m g,
   fun m g _ => Cert.MixIdeal.Gen.frame m g,
   Cert.RefFrames.mix,
   fun m g _ => Cert.Gdn.Gen.frame m g,
   fun m g _ => Cert.GdnIdeal.Gen.frame m g,
   Cert.RefFrames.gdn,
   trivial,
   Cert.Ffn1Claim.algebraic,
   trivial,
   Cert.Ffn2Claim.algebraic,
   trivial,
   Cert.MixClaim.algebraic,
   trivial⟩

end Cert.Proof

end
